-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 2, 128]⟩ ⟨4, ![1, 65536, 2, 128]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 2, 128]⟩ ⟨4, ![1, 65536, 2, 128]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S1x2048x2x128 : Shape := ⟨4, ![1, 2048, 2, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x2x128 : S_.BroadcastsInDim S1x2048x2x128 (![] : Fin 0 → Fin S1x2048x2x128.rank)
  reducesTo_S1x2048x2x128_S_d0_1_2_3 : S1x2048x2x128.ReducesTo [0, 1, 2, 3] S_

variable [Facts]

def fn {F : FTy → Type} [FloatOps F] (main_arg0 : FVec F S1x512x1024 .f32) (main_arg1 : FVec F S1024x1024 .f32) (main_arg2 : FVec F S1x2048x2x128 .f32) (main_arg3 : FVec F S1x2048x2x128 .f32) (main_arg4 : FVec F S1024x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x2x128 .f32 := Host.absf main_arg2
  let main_cst_2 : FVec F S_ .f32 := constant S_ .f32 0x7F800000#32
  let main_v10 : FVec F S1x2048x2x128 .f32 := broadcastInDim S1x2048x2x128 ![] bcast_S_S1x2048x2x128 main_cst_2
  let main_v11 : IVec S1x2048x2x128 1 := cmpf .olt main_v9 main_v10
  let main_c_3 : IVec S_ 1 := constantI S_ 1 1#1
  let main_v12 : IVec S_ 1 := (fun x v => Host.reduce IntOp.andi x v reducesTo_S1x2048x2x128_S_d0_1_2_3 h_S_) main_v11 main_c_3
  let main_v13 : IVec S_ 1 := andi main_v8 main_v12
  main_v13
-- ==== Pre_finite_ReferenceIdeal.lean ====
abbrev S1x512x1024 : Shape := ⟨3, ![1, 512, 1024]⟩
abbrev S1024x1024 : Shape := ⟨2, ![1024, 1024]⟩
abbrev S1x65536x2x128 : Shape := ⟨4, ![1, 65536, 2, 128]⟩
abbrev S_ : Shape := ⟨0, ![]⟩

class Facts : Prop where
  bcast_S_S1x512x1024 : S_.BroadcastsInDim S1x512x1024 (![] : Fin 0 → Fin S1x512x1024.rank)
  reducesTo_S1x512x1024_S_d0_1_2 : S1x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x65536x2x128 : S_.BroadcastsInDim S1x65536x2x128 (![] : Fin 0 → Fin S1x65536x2x128.rank)
  reducesTo_S1x65536x2x128_S_d0_1_2_3 : S1x65536x2x128.ReducesTo [0, 1, 2, 3] S_

variable [Facts]

def fn {F : FTy → Type} [FloatOps F] (main_arg0 : FVec F S1x512x1024 .f32) (main_arg1 : FVec F S1024x1024 .f32) (main_arg2 : FVec F S1x65536x2x128 .f32) (main_arg3 : FVec F S1x65536x2x128 .f32) (main_arg4 : FVec F S1024x1024 .f32) : IVec S_ 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_c : IVec S_ 1 := constantI S_ 1 1#1
  let main_v3 : IVec S_ 1 := (fun x v => Host.reduce IntOp.andi x v reducesTo_S1x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x65536x2x128 .f32 := Host.absf main_arg2
  let main_cst_2 : FVec F S_ .f32 := constant S_ .f32 0x7F800000#32
  let main_v10 : FVec F S1x65536x2x128 .f32 := broadcastInDim S1x65536x2x128 ![] bcast_S_S1x65536x2x128 main_cst_2
  let main_v11 : IVec S1x65536x2x128 1 := cmpf .olt main_v9 main_v10
  let main_c_3 : IVec S_ 1 := constantI S_ 1 1#1
  let main_v12 : IVec S_ 1 := (fun x v => Host.reduce IntOp.andi x v reducesTo_S1x65536x2x128_S_d0_1_2_3 h_S_) main_v11 main_c_3
  let main_v13 : IVec S_ 1 := andi main_v8 main_v12
  main_v13
-- ==== Kernel.lean ====
abbrev S1x512x1024 : Shape := ⟨3, ![1, 512, 1024]⟩
abbrev S1024x1024 : Shape := ⟨2, ![1024, 1024]⟩
abbrev S1x2048x2x128 : Shape := ⟨4, ![1, 2048, 2, 128]⟩
abbrev S512x1024 : Shape := ⟨2, ![512, 1024]⟩
abbrev S512x8x128 : Shape := ⟨3, ![512, 8, 128]⟩
abbrev S512x8 : Shape := ⟨2, ![512, 8]⟩
abbrev S496x8x128 : Shape := ⟨3, ![496, 8, 128]⟩
abbrev S496x8 : Shape := ⟨2, ![496, 8]⟩
abbrev S5 : Shape := ⟨1, ![5]⟩
abbrev S_ : Shape := ⟨0, ![]⟩
abbrev S512x128 : Shape := ⟨2, ![512, 128]⟩
abbrev S1x2048x1x128 : Shape := ⟨4, ![1, 2048, 1, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S512x1x128 : Shape := ⟨3, ![512, 1, 128]⟩
abbrev S1 : Shape := ⟨1, ![1]⟩
abbrev S256x8x128 : Shape := ⟨3, ![256, 8, 128]⟩
abbrev S256x8 : Shape := ⟨2, ![256, 8]⟩
abbrev S128x8x128 : Shape := ⟨3, ![128, 8, 128]⟩
abbrev S128x8 : Shape := ⟨2, ![128, 8]⟩
abbrev S64x8x128 : Shape := ⟨3, ![64, 8, 128]⟩
abbrev S64x8 : Shape := ⟨2, ![64, 8]⟩
abbrev S32x8x128 : Shape := ⟨3, ![32, 8, 128]⟩
abbrev S32x8 : Shape := ⟨2, ![32, 8]⟩
abbrev S16x8x128 : Shape := ⟨3, ![16, 8, 128]⟩
abbrev S16x8 : Shape := ⟨2, ![16, 8]⟩
abbrev S16x1x128 : Shape := ⟨3, ![16, 1, 128]⟩
abbrev S16x128 : Shape := ⟨2, ![16, 128]⟩
abbrev S16x1 : Shape := ⟨2, ![16, 1]⟩
abbrev S128x1024 : Shape := ⟨2, ![128, 1024]⟩
abbrev S16x1024 : Shape := ⟨2, ![16, 1024]⟩
abbrev S32x1024 : Shape := ⟨2, ![32, 1024]⟩
abbrev S64x1024 : Shape := ⟨2, ![64, 1024]⟩
abbrev S256x1024 : Shape := ⟨2, ![256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x2x128, .f32⟩
  | .hbm, ⟨3, _⟩ => ⟨S1x2048x2x128, .f32⟩
  | .hbm, ⟨4, _⟩ => ⟨S1024x1024, .f32⟩
  | .hbm, ⟨5, _⟩ => ⟨S512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x2x128, .f32⟩
  | .local _ .vmem, ⟨4, _⟩ => ⟨S1x2048x2x128, .f32⟩
  | .local _ .vmem, ⟨5, _⟩ => ⟨S512x1024, .f32⟩
  | .local _ .vmem, ⟨6, _⟩ => ⟨S512x8x128, .f32⟩
  | .local _ .vmem, ⟨7, _⟩ => ⟨S512x8, .f32⟩
  | .local _ .vmem, ⟨8, _⟩ => ⟨S496x8x128, .f32⟩
  | .local _ .vmem, ⟨9, _⟩ => ⟨S496x8, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c1_i32_163 : BitVec 32 := 1#32
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let v199 : BitVec 32 := Scalar.subi c1_i32_163 v196
  let c256_i32_164 : BitVec 32 := 256#32
  let v200 : BitVec 32 := Scalar.muli v199 c256_i32_164
  let v201 : BitVec 32 := Scalar.addi v168 v200
  let c0_i32_172 : BitVec 32 := 0#32
  let c0_i32_173 : BitVec 32 := 0#32
  ![v201.toNat, 0, 0]
def k0_dev6 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_149 : BitVec 32 := 16#32
  let v169 : BitVec 32 := Scalar.xori v2 c16_i32_149
  let c1_i32_167 : BitVec 32 := 1#32
  let v202 : BitVec 32 := Scalar.muli v169 c1_i32_167
  let v203 : BitVec 32 := Scalar.addi c0_i32_168 v202
  v203.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c1_i32_163 : BitVec 32 := 1#32
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let v199 : BitVec 32 := Scalar.subi c1_i32_163 v196
  let c256_i32_164 : BitVec 32 := 256#32
  let v200 : BitVec 32 := Scalar.muli v199 c256_i32_164
  let v201 : BitVec 32 := Scalar.addi v168 v200
  let c0_i32_180 : BitVec 32 := 0#32
  ![v201.toNat, 0]
def k0_dev7 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_149 : BitVec 32 := 16#32
  let v169 : BitVec 32 := Scalar.xori v2 c16_i32_149
  let c1_i32_176 : BitVec 32 := 1#32
  let v210 : BitVec 32 := Scalar.muli v169 c1_i32_176
  let v211 : BitVec 32 := Scalar.addi c0_i32_177 v210
  v211.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let v238 : Index := Scalar.indexCast v198
  let c0_211 : Index := 0#32
  let c0_212 : Index := 0#32
  ![v238.toNat, 0, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let v246 : Index := Scalar.indexCast v198
  let c0_218 : Index := 0#32
  ![v246.toNat, 0]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c1_i32_236 : BitVec 32 := 1#32
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let v284 : BitVec 32 := Scalar.subi c1_i32_236 v281
  let c128_i32_237 : BitVec 32 := 128#32
  let v285 : BitVec 32 := Scalar.muli v284 c128_i32_237
  let v286 : BitVec 32 := Scalar.addi v198 v285
  let c0_i32_245 : BitVec 32 := 0#32
  let c0_i32_246 : BitVec 32 := 0#32
  ![v286.toNat, 0, 0]
def k0_dev8 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_222 : BitVec 32 := 8#32
  let v254 : BitVec 32 := Scalar.xori v2 c8_i32_222
  let c1_i32_240 : BitVec 32 := 1#32
  let v287 : BitVec 32 := Scalar.muli v254 c1_i32_240
  let v288 : BitVec 32 := Scalar.addi c0_i32_241 v287
  v288.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c1_i32_236 : BitVec 32 := 1#32
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let v284 : BitVec 32 := Scalar.subi c1_i32_236 v281
  let c128_i32_237 : BitVec 32 := 128#32
  let v285 : BitVec 32 := Scalar.muli v284 c128_i32_237
  let v286 : BitVec 32 := Scalar.addi v198 v285
  let c0_i32_253 : BitVec 32 := 0#32
  ![v286.toNat, 0]
def k0_dev9 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_222 : BitVec 32 := 8#32
  let v254 : BitVec 32 := Scalar.xori v2 c8_i32_222
  let c1_i32_249 : BitVec 32 := 1#32
  let v295 : BitVec 32 := Scalar.muli v254 c1_i32_249
  let v296 : BitVec 32 := Scalar.addi c0_i32_250 v295
  v296.toNat
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let v323 : Index := Scalar.indexCast v283
  let c0_284 : Index := 0#32
  let c0_285 : Index := 0#32
  ![v323.toNat, 0, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let v331 : Index := Scalar.indexCast v283
  let c0_290 : Index := 0#32
  ![v331.toNat, 0]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c1_i32_308 : BitVec 32 := 1#32
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let v369 : BitVec 32 := Scalar.subi c1_i32_308 v366
  let c64_i32_309 : BitVec 32 := 64#32
  let v370 : BitVec 32 := Scalar.muli v369 c64_i32_309
  let v371 : BitVec 32 := Scalar.addi v283 v370
  let c0_i32_316 : BitVec 32 := 0#32
  let c0_i32_317 : BitVec 32 := 0#32
  ![v371.toNat, 0, 0]
def k0_dev10 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_294 : BitVec 32 := 4#32
  let v339 : BitVec 32 := Scalar.xori v2 c4_i32_294
  let c1_i32_312 : BitVec 32 := 1#32
  let v372 : BitVec 32 := Scalar.muli v339 c1_i32_312
  let v373 : BitVec 32 := Scalar.addi c0_i32_313 v372
  v373.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c1_i32_308 : BitVec 32 := 1#32
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let v369 : BitVec 32 := Scalar.subi c1_i32_308 v366
  let c64_i32_309 : BitVec 32 := 64#32
  let v370 : BitVec 32 := Scalar.muli v369 c64_i32_309
  let v371 : BitVec 32 := Scalar.addi v283 v370
  let c0_i32_324 : BitVec 32 := 0#32
  ![v371.toNat, 0]
def k0_dev11 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_294 : BitVec 32 := 4#32
  let v339 : BitVec 32 := Scalar.xori v2 c4_i32_294
  let c1_i32_320 : BitVec 32 := 1#32
  let v380 : BitVec 32 := Scalar.muli v339 c1_i32_320
  let v381 : BitVec 32 := Scalar.addi c0_i32_321 v380
  v381.toNat
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let v408 : Index := Scalar.indexCast v368
  let c0_355 : Index := 0#32
  let c0_356 : Index := 0#32
  ![v408.toNat, 0, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let v416 : Index := Scalar.indexCast v368
  let c0_361 : Index := 0#32
  ![v416.toNat, 0]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c1_i32_380 : BitVec 32 := 1#32
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let v454 : BitVec 32 := Scalar.subi c1_i32_380 v451
  let c32_i32_381 : BitVec 32 := 32#32
  let v455 : BitVec 32 := Scalar.muli v454 c32_i32_381
  let v456 : BitVec 32 := Scalar.addi v368 v455
  let c0_i32_387 : BitVec 32 := 0#32
  let c0_i32_388 : BitVec 32 := 0#32
  ![v456.toNat, 0, 0]
def k0_dev12 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_365 : BitVec 32 := 2#32
  let v424 : BitVec 32 := Scalar.xori v2 c2_i32_365
  let c1_i32_383 : BitVec 32 := 1#32
  let v457 : BitVec 32 := Scalar.muli v424 c1_i32_383
  let v458 : BitVec 32 := Scalar.addi c0_i32_384 v457
  v458.toNat
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c1_i32_380 : BitVec 32 := 1#32
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let v454 : BitVec 32 := Scalar.subi c1_i32_380 v451
  let c32_i32_381 : BitVec 32 := 32#32
  let v455 : BitVec 32 := Scalar.muli v454 c32_i32_381
  let v456 : BitVec 32 := Scalar.addi v368 v455
  let c0_i32_395 : BitVec 32 := 0#32
  ![v456.toNat, 0]
def k0_dev13 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_365 : BitVec 32 := 2#32
  let v424 : BitVec 32 := Scalar.xori v2 c2_i32_365
  let c1_i32_391 : BitVec 32 := 1#32
  let v465 : BitVec 32 := Scalar.muli v424 c1_i32_391
  let v466 : BitVec 32 := Scalar.addi c0_i32_392 v465
  v466.toNat
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let v493 : Index := Scalar.indexCast v453
  let c0_426 : Index := 0#32
  let c0_427 : Index := 0#32
  ![v493.toNat, 0, 0]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let v501 : Index := Scalar.indexCast v453
  let c0_432 : Index := 0#32
  ![v501.toNat, 0]
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c1_i32_451 : BitVec 32 := 1#32
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let v539 : BitVec 32 := Scalar.subi c1_i32_451 v536
  let c16_i32_452 : BitVec 32 := 16#32
  let v540 : BitVec 32 := Scalar.muli v539 c16_i32_452
  let v541 : BitVec 32 := Scalar.addi v453 v540
  let c0_i32_459 : BitVec 32 := 0#32
  let c0_i32_460 : BitVec 32 := 0#32
  ![v541.toNat, 0, 0]
def k0_dev14 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_436 : BitVec 32 := 1#32
  let v509 : BitVec 32 := Scalar.xori v2 c1_i32_436
  let c1_i32_455 : BitVec 32 := 1#32
  let v542 : BitVec 32 := Scalar.muli v509 c1_i32_455
  let v543 : BitVec 32 := Scalar.addi c0_i32_456 v542
  v543.toNat
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c1_i32_451 : BitVec 32 := 1#32
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let v539 : BitVec 32 := Scalar.subi c1_i32_451 v536
  let c16_i32_452 : BitVec 32 := 16#32
  let v540 : BitVec 32 := Scalar.muli v539 c16_i32_452
  let v541 : BitVec 32 := Scalar.addi v453 v540
  let c0_i32_467 : BitVec 32 := 0#32
  ![v541.toNat, 0]
def k0_dev15 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_436 : BitVec 32 := 1#32
  let v509 : BitVec 32 := Scalar.xori v2 c1_i32_436
  let c1_i32_463 : BitVec 32 := 1#32
  let v550 : BitVec 32 := Scalar.muli v509 c1_i32_463
  let v551 : BitVec 32 := Scalar.addi c0_i32_464 v550
  v551.toNat
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v578 : Index := Scalar.indexCast v538
  let c0_498 : Index := 0#32
  let c0_499 : Index := 0#32
  ![v578.toNat, 0, 0]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v586 : Index := Scalar.indexCast v538
  let c0_504 : Index := 0#32
  ![v586.toNat, 0]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v594 : Index := Scalar.indexCast v538
  let c0_508 : Index := 0#32
  let c0_509 : Index := 0#32
  ![v594.toNat, 0, 0]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v597 : Index := Scalar.indexCast v538
  let c0_510 : Index := 0#32
  ![v597.toNat, 0]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v604 : Index := Scalar.indexCast v538
  let c1_514 : Index := 1#32
  let c0_515 : Index := 0#32
  ![v604.toNat, 1, 0]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v607 : Index := Scalar.indexCast v538
  let c1_516 : Index := 1#32
  ![v607.toNat, 1]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v615 : Index := Scalar.indexCast v538
  let c2_519 : Index := 2#32
  let c0_520 : Index := 0#32
  ![v615.toNat, 2, 0]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v618 : Index := Scalar.indexCast v538
  let c2_521 : Index := 2#32
  ![v618.toNat, 2]
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v626 : Index := Scalar.indexCast v538
  let c3_525 : Index := 3#32
  let c0_526 : Index := 0#32
  ![v626.toNat, 3, 0]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v629 : Index := Scalar.indexCast v538
  let c3_527 : Index := 3#32
  ![v629.toNat, 3]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v637 : Index := Scalar.indexCast v538
  let c4_531 : Index := 4#32
  let c0_532 : Index := 0#32
  ![v637.toNat, 4, 0]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v640 : Index := Scalar.indexCast v538
  let c4_533 : Index := 4#32
  ![v640.toNat, 4]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v648 : Index := Scalar.indexCast v538
  let c5_536 : Index := 5#32
  let c0_537 : Index := 0#32
  ![v648.toNat, 5, 0]
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v651 : Index := Scalar.indexCast v538
  let c5_538 : Index := 5#32
  ![v651.toNat, 5]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v659 : Index := Scalar.indexCast v538
  let c6_541 : Index := 6#32
  let c0_542 : Index := 0#32
  ![v659.toNat, 6, 0]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v662 : Index := Scalar.indexCast v538
  let c6_543 : Index := 6#32
  ![v662.toNat, 6]
def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v670 : Index := Scalar.indexCast v538
  let c7_546 : Index := 7#32
  let c0_547 : Index := 0#32
  ![v670.toNat, 7, 0]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v673 : Index := Scalar.indexCast v538
  let c7_548 : Index := 7#32
  ![v673.toNat, 7]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_148 : BitVec 32 := 0#32
  let v168 : BitVec 32 := Scalar.muli v2 c0_i32_148
  let c0_i32_151 : BitVec 32 := 0#32
  let v171 : BitVec 1 := Scalar.cmpi .sgt v2 c0_i32_151
  let v172 : BitVec 32 := Scalar.extui v171
  let c0_i32_152 : BitVec 32 := 0#32
  let v173 : BitVec 1 := Scalar.cmpi .slt v2 c0_i32_152
  let v174 : BitVec 32 := Scalar.extui v173
  let v175 : BitVec 32 := Scalar.subi v172 v174
  let c16_i32_150 : BitVec 32 := 16#32
  let c0_i32_153 : BitVec 32 := 0#32
  let v176 : BitVec 1 := Scalar.cmpi .sgt c16_i32_150 c0_i32_153
  let v177 : BitVec 32 := Scalar.extui v176
  let c0_i32_154 : BitVec 32 := 0#32
  let v178 : BitVec 1 := Scalar.cmpi .slt c16_i32_150 c0_i32_154
  let v179 : BitVec 32 := Scalar.extui v178
  let v180 : BitVec 32 := Scalar.subi v177 v179
  let v181 : BitVec 1 := Scalar.cmpi .ne v175 v180
  let v182 : BitVec 32 := Scalar.remsi v2 c16_i32_150
  let c0_i32_155 : BitVec 32 := 0#32
  let v183 : BitVec 1 := Scalar.cmpi .ne v182 c0_i32_155
  let v184 : BitVec 1 := Scalar.andi v181 v183
  let v170 : BitVec 32 := Scalar.divsi v2 c16_i32_150
  let c1_i32_156 : BitVec 32 := 1#32
  let v185 : BitVec 32 := Scalar.subi v170 c1_i32_156
  let v186 : BitVec 32 := Scalar.select v184 v185 v170
  let c2_i32_157 : BitVec 32 := 2#32
  let c0_i32_158 : BitVec 32 := 0#32
  let v187 : BitVec 1 := Scalar.cmpi .eq c2_i32_157 c0_i32_158
  let c1_i32_159 : BitVec 32 := 1#32
  let v188 : BitVec 32 := Scalar.select v187 c1_i32_159 c2_i32_157
  let v189 : BitVec 32 := Scalar.remsi v186 v188
  let c0_i32_161 : BitVec 32 := 0#32
  let v191 : BitVec 1 := Scalar.cmpi .slt v189 c0_i32_161
  let c0_i32_162 : BitVec 32 := 0#32
  let v192 : BitVec 1 := Scalar.cmpi .slt v188 c0_i32_162
  let v193 : BitVec 1 := Scalar.xori v191 v192
  let c0_i32_160 : BitVec 32 := 0#32
  let v190 : BitVec 1 := Scalar.cmpi .ne v189 c0_i32_160
  let v194 : BitVec 1 := Scalar.andi v193 v190
  let v195 : BitVec 32 := Scalar.addi v189 v188
  let v196 : BitVec 32 := Scalar.select v194 v195 v189
  let c256_i32 : BitVec 32 := 256#32
  let v197 : BitVec 32 := Scalar.muli v196 c256_i32
  let v198 : BitVec 32 := Scalar.addi v168 v197
  let c0_i32_224 : BitVec 32 := 0#32
  let v256 : BitVec 1 := Scalar.cmpi .sgt v2 c0_i32_224
  let v257 : BitVec 32 := Scalar.extui v256
  let c0_i32_225 : BitVec 32 := 0#32
  let v258 : BitVec 1 := Scalar.cmpi .slt v2 c0_i32_225
  let v259 : BitVec 32 := Scalar.extui v258
  let v260 : BitVec 32 := Scalar.subi v257 v259
  let c8_i32_223 : BitVec 32 := 8#32
  let c0_i32_226 : BitVec 32 := 0#32
  let v261 : BitVec 1 := Scalar.cmpi .sgt c8_i32_223 c0_i32_226
  let v262 : BitVec 32 := Scalar.extui v261
  let c0_i32_227 : BitVec 32 := 0#32
  let v263 : BitVec 1 := Scalar.cmpi .slt c8_i32_223 c0_i32_227
  let v264 : BitVec 32 := Scalar.extui v263
  let v265 : BitVec 32 := Scalar.subi v262 v264
  let v266 : BitVec 1 := Scalar.cmpi .ne v260 v265
  let v267 : BitVec 32 := Scalar.remsi v2 c8_i32_223
  let c0_i32_228 : BitVec 32 := 0#32
  let v268 : BitVec 1 := Scalar.cmpi .ne v267 c0_i32_228
  let v269 : BitVec 1 := Scalar.andi v266 v268
  let v255 : BitVec 32 := Scalar.divsi v2 c8_i32_223
  let c1_i32_229 : BitVec 32 := 1#32
  let v270 : BitVec 32 := Scalar.subi v255 c1_i32_229
  let v271 : BitVec 32 := Scalar.select v269 v270 v255
  let c2_i32_230 : BitVec 32 := 2#32
  let c0_i32_231 : BitVec 32 := 0#32
  let v272 : BitVec 1 := Scalar.cmpi .eq c2_i32_230 c0_i32_231
  let c1_i32_232 : BitVec 32 := 1#32
  let v273 : BitVec 32 := Scalar.select v272 c1_i32_232 c2_i32_230
  let v274 : BitVec 32 := Scalar.remsi v271 v273
  let c0_i32_234 : BitVec 32 := 0#32
  let v276 : BitVec 1 := Scalar.cmpi .slt v274 c0_i32_234
  let c0_i32_235 : BitVec 32 := 0#32
  let v277 : BitVec 1 := Scalar.cmpi .slt v273 c0_i32_235
  let v278 : BitVec 1 := Scalar.xori v276 v277
  let c0_i32_233 : BitVec 32 := 0#32
  let v275 : BitVec 1 := Scalar.cmpi .ne v274 c0_i32_233
  let v279 : BitVec 1 := Scalar.andi v278 v275
  let v280 : BitVec 32 := Scalar.addi v274 v273
  let v281 : BitVec 32 := Scalar.select v279 v280 v274
  let c128_i32 : BitVec 32 := 128#32
  let v282 : BitVec 32 := Scalar.muli v281 c128_i32
  let v283 : BitVec 32 := Scalar.addi v198 v282
  let c0_i32_296 : BitVec 32 := 0#32
  let v341 : BitVec 1 := Scalar.cmpi .sgt v2 c0_i32_296
  let v342 : BitVec 32 := Scalar.extui v341
  let c0_i32_297 : BitVec 32 := 0#32
  let v343 : BitVec 1 := Scalar.cmpi .slt v2 c0_i32_297
  let v344 : BitVec 32 := Scalar.extui v343
  let v345 : BitVec 32 := Scalar.subi v342 v344
  let c4_i32_295 : BitVec 32 := 4#32
  let c0_i32_298 : BitVec 32 := 0#32
  let v346 : BitVec 1 := Scalar.cmpi .sgt c4_i32_295 c0_i32_298
  let v347 : BitVec 32 := Scalar.extui v346
  let c0_i32_299 : BitVec 32 := 0#32
  let v348 : BitVec 1 := Scalar.cmpi .slt c4_i32_295 c0_i32_299
  let v349 : BitVec 32 := Scalar.extui v348
  let v350 : BitVec 32 := Scalar.subi v347 v349
  let v351 : BitVec 1 := Scalar.cmpi .ne v345 v350
  let v352 : BitVec 32 := Scalar.remsi v2 c4_i32_295
  let c0_i32_300 : BitVec 32 := 0#32
  let v353 : BitVec 1 := Scalar.cmpi .ne v352 c0_i32_300
  let v354 : BitVec 1 := Scalar.andi v351 v353
  let v340 : BitVec 32 := Scalar.divsi v2 c4_i32_295
  let c1_i32_301 : BitVec 32 := 1#32
  let v355 : BitVec 32 := Scalar.subi v340 c1_i32_301
  let v356 : BitVec 32 := Scalar.select v354 v355 v340
  let c2_i32_302 : BitVec 32 := 2#32
  let c0_i32_303 : BitVec 32 := 0#32
  let v357 : BitVec 1 := Scalar.cmpi .eq c2_i32_302 c0_i32_303
  let c1_i32_304 : BitVec 32 := 1#32
  let v358 : BitVec 32 := Scalar.select v357 c1_i32_304 c2_i32_302
  let v359 : BitVec 32 := Scalar.remsi v356 v358
  let c0_i32_306 : BitVec 32 := 0#32
  let v361 : BitVec 1 := Scalar.cmpi .slt v359 c0_i32_306
  let c0_i32_307 : BitVec 32 := 0#32
  let v362 : BitVec 1 := Scalar.cmpi .slt v358 c0_i32_307
  let v363 : BitVec 1 := Scalar.xori v361 v362
  let c0_i32_305 : BitVec 32 := 0#32
  let v360 : BitVec 1 := Scalar.cmpi .ne v359 c0_i32_305
  let v364 : BitVec 1 := Scalar.andi v363 v360
  let v365 : BitVec 32 := Scalar.addi v359 v358
  let v366 : BitVec 32 := Scalar.select v364 v365 v359
  let c64_i32 : BitVec 32 := 64#32
  let v367 : BitVec 32 := Scalar.muli v366 c64_i32
  let v368 : BitVec 32 := Scalar.addi v283 v367
  let c0_i32_367 : BitVec 32 := 0#32
  let v426 : BitVec 1 := Scalar.cmpi .sgt v2 c0_i32_367
  let v427 : BitVec 32 := Scalar.extui v426
  let c0_i32_368 : BitVec 32 := 0#32
  let v428 : BitVec 1 := Scalar.cmpi .slt v2 c0_i32_368
  let v429 : BitVec 32 := Scalar.extui v428
  let v430 : BitVec 32 := Scalar.subi v427 v429
  let c2_i32_366 : BitVec 32 := 2#32
  let c0_i32_369 : BitVec 32 := 0#32
  let v431 : BitVec 1 := Scalar.cmpi .sgt c2_i32_366 c0_i32_369
  let v432 : BitVec 32 := Scalar.extui v431
  let c0_i32_370 : BitVec 32 := 0#32
  let v433 : BitVec 1 := Scalar.cmpi .slt c2_i32_366 c0_i32_370
  let v434 : BitVec 32 := Scalar.extui v433
  let v435 : BitVec 32 := Scalar.subi v432 v434
  let v436 : BitVec 1 := Scalar.cmpi .ne v430 v435
  let v437 : BitVec 32 := Scalar.remsi v2 c2_i32_366
  let c0_i32_371 : BitVec 32 := 0#32
  let v438 : BitVec 1 := Scalar.cmpi .ne v437 c0_i32_371
  let v439 : BitVec 1 := Scalar.andi v436 v438
  let v425 : BitVec 32 := Scalar.divsi v2 c2_i32_366
  let c1_i32_372 : BitVec 32 := 1#32
  let v440 : BitVec 32 := Scalar.subi v425 c1_i32_372
  let v441 : BitVec 32 := Scalar.select v439 v440 v425
  let c2_i32_373 : BitVec 32 := 2#32
  let c0_i32_374 : BitVec 32 := 0#32
  let v442 : BitVec 1 := Scalar.cmpi .eq c2_i32_373 c0_i32_374
  let c1_i32_375 : BitVec 32 := 1#32
  let v443 : BitVec 32 := Scalar.select v442 c1_i32_375 c2_i32_373
  let v444 : BitVec 32 := Scalar.remsi v441 v443
  let c0_i32_377 : BitVec 32 := 0#32
  let v446 : BitVec 1 := Scalar.cmpi .slt v444 c0_i32_377
  let c0_i32_378 : BitVec 32 := 0#32
  let v447 : BitVec 1 := Scalar.cmpi .slt v443 c0_i32_378
  let v448 : BitVec 1 := Scalar.xori v446 v447
  let c0_i32_376 : BitVec 32 := 0#32
  let v445 : BitVec 1 := Scalar.cmpi .ne v444 c0_i32_376
  let v449 : BitVec 1 := Scalar.andi v448 v445
  let v450 : BitVec 32 := Scalar.addi v444 v443
  let v451 : BitVec 32 := Scalar.select v449 v450 v444
  let c32_i32_379 : BitVec 32 := 32#32
  let v452 : BitVec 32 := Scalar.muli v451 c32_i32_379
  let v453 : BitVec 32 := Scalar.addi v368 v452
  let c0_i32_438 : BitVec 32 := 0#32
  let v511 : BitVec 1 := Scalar.cmpi .sgt v2 c0_i32_438
  let v512 : BitVec 32 := Scalar.extui v511
  let c0_i32_439 : BitVec 32 := 0#32
  let v513 : BitVec 1 := Scalar.cmpi .slt v2 c0_i32_439
  let v514 : BitVec 32 := Scalar.extui v513
  let v515 : BitVec 32 := Scalar.subi v512 v514
  let c1_i32_437 : BitVec 32 := 1#32
  let c0_i32_440 : BitVec 32 := 0#32
  let v516 : BitVec 1 := Scalar.cmpi .sgt c1_i32_437 c0_i32_440
  let v517 : BitVec 32 := Scalar.extui v516
  let c0_i32_441 : BitVec 32 := 0#32
  let v518 : BitVec 1 := Scalar.cmpi .slt c1_i32_437 c0_i32_441
  let v519 : BitVec 32 := Scalar.extui v518
  let v520 : BitVec 32 := Scalar.subi v517 v519
  let v521 : BitVec 1 := Scalar.cmpi .ne v515 v520
  let v522 : BitVec 32 := Scalar.remsi v2 c1_i32_437
  let c0_i32_442 : BitVec 32 := 0#32
  let v523 : BitVec 1 := Scalar.cmpi .ne v522 c0_i32_442
  let v524 : BitVec 1 := Scalar.andi v521 v523
  let v510 : BitVec 32 := Scalar.divsi v2 c1_i32_437
  let c1_i32_443 : BitVec 32 := 1#32
  let v525 : BitVec 32 := Scalar.subi v510 c1_i32_443
  let v526 : BitVec 32 := Scalar.select v524 v525 v510
  let c2_i32_444 : BitVec 32 := 2#32
  let c0_i32_445 : BitVec 32 := 0#32
  let v527 : BitVec 1 := Scalar.cmpi .eq c2_i32_444 c0_i32_445
  let c1_i32_446 : BitVec 32 := 1#32
  let v528 : BitVec 32 := Scalar.select v527 c1_i32_446 c2_i32_444
  let v529 : BitVec 32 := Scalar.remsi v526 v528
  let c0_i32_448 : BitVec 32 := 0#32
  let v531 : BitVec 1 := Scalar.cmpi .slt v529 c0_i32_448
  let c0_i32_449 : BitVec 32 := 0#32
  let v532 : BitVec 1 := Scalar.cmpi .slt v528 c0_i32_449
  let v533 : BitVec 1 := Scalar.xori v531 v532
  let c0_i32_447 : BitVec 32 := 0#32
  let v530 : BitVec 1 := Scalar.cmpi .ne v529 c0_i32_447
  let v534 : BitVec 1 := Scalar.andi v533 v530
  let v535 : BitVec 32 := Scalar.addi v529 v528
  let v536 : BitVec 32 := Scalar.select v534 v535 v529
  let c16_i32_450 : BitVec 32 := 16#32
  let v537 : BitVec 32 := Scalar.muli v536 c16_i32_450
  let v538 : BitVec 32 := Scalar.addi v453 v537
  let v681 : Index := Scalar.indexCast v538
  let c0_551 : Index := 0#32
  ![v681.toNat, 0]
def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_553 : BitVec 32 := 1#32
  let c0_i32_554 : BitVec 32 := 0#32
  let v684 : BitVec 1 := Scalar.cmpi .eq c1_i32_553 c0_i32_554
  let c1_i32_555 : BitVec 32 := 1#32
  let v685 : BitVec 32 := Scalar.select v684 c1_i32_555 c1_i32_553
  let v686 : BitVec 32 := Scalar.remsi v2 v685
  let c0_i32_557 : BitVec 32 := 0#32
  let v688 : BitVec 1 := Scalar.cmpi .slt v686 c0_i32_557
  let c0_i32_558 : BitVec 32 := 0#32
  let v689 : BitVec 1 := Scalar.cmpi .slt v685 c0_i32_558
  let v690 : BitVec 1 := Scalar.xori v688 v689
  let c0_i32_556 : BitVec 32 := 0#32
  let v687 : BitVec 1 := Scalar.cmpi .ne v686 c0_i32_556
  let v691 : BitVec 1 := Scalar.andi v690 v687
  let v692 : BitVec 32 := Scalar.addi v686 v685
  let v693 : BitVec 32 := Scalar.select v691 v692 v686
  let v694 : BitVec 32 := Scalar.subi v2 v693
  let c16_i32_559 : BitVec 32 := 16#32
  let v695 : BitVec 32 := Scalar.muli v694 c16_i32_559
  let c0_i32_564 : BitVec 32 := 0#32
  ![v695.toNat, 0]
def k0_dev16 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_552 : BitVec 32 := 1#32
  let v683 : BitVec 32 := Scalar.xori v2 c1_i32_552
  let c1_i32_562 : BitVec 32 := 1#32
  let v696 : BitVec 32 := Scalar.muli v683 c1_i32_562
  let v697 : BitVec 32 := Scalar.addi c0_i32_563 v696
  v697.toNat
def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_578 : BitVec 32 := 2#32
  let c0_i32_579 : BitVec 32 := 0#32
  let v715 : BitVec 1 := Scalar.cmpi .eq c2_i32_578 c0_i32_579
  let c1_i32_580 : BitVec 32 := 1#32
  let v716 : BitVec 32 := Scalar.select v715 c1_i32_580 c2_i32_578
  let v717 : BitVec 32 := Scalar.remsi v2 v716
  let c0_i32_582 : BitVec 32 := 0#32
  let v719 : BitVec 1 := Scalar.cmpi .slt v717 c0_i32_582
  let c0_i32_583 : BitVec 32 := 0#32
  let v720 : BitVec 1 := Scalar.cmpi .slt v716 c0_i32_583
  let v721 : BitVec 1 := Scalar.xori v719 v720
  let c0_i32_581 : BitVec 32 := 0#32
  let v718 : BitVec 1 := Scalar.cmpi .ne v717 c0_i32_581
  let v722 : BitVec 1 := Scalar.andi v721 v718
  let v723 : BitVec 32 := Scalar.addi v717 v716
  let v724 : BitVec 32 := Scalar.select v722 v723 v717
  let v725 : BitVec 32 := Scalar.subi v2 v724
  let c16_i32_584 : BitVec 32 := 16#32
  let v726 : BitVec 32 := Scalar.muli v725 c16_i32_584
  let c0_i32_589 : BitVec 32 := 0#32
  ![v726.toNat, 0]
def k0_dev17 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_577 : BitVec 32 := 2#32
  let v714 : BitVec 32 := Scalar.xori v2 c2_i32_577
  let c1_i32_587 : BitVec 32 := 1#32
  let v727 : BitVec 32 := Scalar.muli v714 c1_i32_587
  let v728 : BitVec 32 := Scalar.addi c0_i32_588 v727
  v728.toNat
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_603 : BitVec 32 := 4#32
  let c0_i32_604 : BitVec 32 := 0#32
  let v746 : BitVec 1 := Scalar.cmpi .eq c4_i32_603 c0_i32_604
  let c1_i32_605 : BitVec 32 := 1#32
  let v747 : BitVec 32 := Scalar.select v746 c1_i32_605 c4_i32_603
  let v748 : BitVec 32 := Scalar.remsi v2 v747
  let c0_i32_607 : BitVec 32 := 0#32
  let v750 : BitVec 1 := Scalar.cmpi .slt v748 c0_i32_607
  let c0_i32_608 : BitVec 32 := 0#32
  let v751 : BitVec 1 := Scalar.cmpi .slt v747 c0_i32_608
  let v752 : BitVec 1 := Scalar.xori v750 v751
  let c0_i32_606 : BitVec 32 := 0#32
  let v749 : BitVec 1 := Scalar.cmpi .ne v748 c0_i32_606
  let v753 : BitVec 1 := Scalar.andi v752 v749
  let v754 : BitVec 32 := Scalar.addi v748 v747
  let v755 : BitVec 32 := Scalar.select v753 v754 v748
  let v756 : BitVec 32 := Scalar.subi v2 v755
  let c16_i32_609 : BitVec 32 := 16#32
  let v757 : BitVec 32 := Scalar.muli v756 c16_i32_609
  let c0_i32_614 : BitVec 32 := 0#32
  ![v757.toNat, 0]
def k0_dev18 (d0 : Dev nD) : Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_602 : BitVec 32 := 4#32
  let v745 : BitVec 32 := Scalar.xori v2 c4_i32_602
  let c1_i32_612 : BitVec 32 := 1#32
  let v758 : BitVec 32 := Scalar.muli v745 c1_i32_612
  let v759 : BitVec 32 := Scalar.addi c0_i32_613 v758
  v759.toNat
def k0_off41 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_628 : BitVec 32 := 8#32
  let c0_i32_629 : BitVec 32 := 0#32
  let v777 : BitVec 1 := Scalar.cmpi .eq c8_i32_628 c0_i32_629
  let c1_i32_630 : BitVec 32 := 1#32
  let v778 : BitVec 32 := Scalar.select v777 c1_i32_630 c8_i32_628
  let v779 : BitVec 32 := Scalar.remsi v2 v778
  let c0_i32_632 : BitVec 32 := 0#32
  let v781 : BitVec 1 := Scalar.cmpi .slt v779 c0_i32_632
  let c0_i32_633 : BitVec 32 := 0#32
  let v782 : BitVec 1 := Scalar.cmpi .slt v778 c0_i32_633
  let v783 : BitVec 1 := Scalar.xori v781 v782
  let c0_i32_631 : BitVec 32 := 0#32
  let v780 : BitVec 1 := Scalar.cmpi .ne v779 c0_i32_631
  let v784 : BitVec 1 := Scalar.andi v783 v780
  let v785 : BitVec 32 := Scalar.addi v779 v778
  let v786 : BitVec 32 := Scalar.select v784 v785 v779
  let v787 : BitVec 32 := Scalar.subi v2 v786
  let c16_i32_634 : BitVec 32 := 16#32
  let v788 : BitVec 32 := Scalar.muli v787 c16_i32_634
  let c0_i32_639 : BitVec 32 := 0#32
  ![v788.toNat, 0]
def k0_dev19 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_627 : BitVec 32 := 8#32
  let v776 : BitVec 32 := Scalar.xori v2 c8_i32_627
  let c1_i32_637 : BitVec 32 := 1#32
  let v789 : BitVec 32 := Scalar.muli v776 c1_i32_637
  let v790 : BitVec 32 := Scalar.addi c0_i32_638 v789
  v790.toNat
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_653 : BitVec 32 := 16#32
  let c0_i32_654 : BitVec 32 := 0#32
  let v808 : BitVec 1 := Scalar.cmpi .eq c16_i32_653 c0_i32_654
  let c1_i32_655 : BitVec 32 := 1#32
  let v809 : BitVec 32 := Scalar.select v808 c1_i32_655 c16_i32_653
  let v810 : BitVec 32 := Scalar.remsi v2 v809
  let c0_i32_657 : BitVec 32 := 0#32
  let v812 : BitVec 1 := Scalar.cmpi .slt v810 c0_i32_657
  let c0_i32_658 : BitVec 32 := 0#32
  let v813 : BitVec 1 := Scalar.cmpi .slt v809 c0_i32_658
  let v814 : BitVec 1 := Scalar.xori v812 v813
  let c0_i32_656 : BitVec 32 := 0#32
  let v811 : BitVec 1 := Scalar.cmpi .ne v810 c0_i32_656
  let v815 : BitVec 1 := Scalar.andi v814 v811
  let v816 : BitVec 32 := Scalar.addi v810 v809
  let v817 : BitVec 32 := Scalar.select v815 v816 v810
  let v818 : BitVec 32 := Scalar.subi v2 v817
  let c16_i32_659 : BitVec 32 := 16#32
  let v819 : BitVec 32 := Scalar.muli v818 c16_i32_659
  let c0_i32_664 : BitVec 32 := 0#32
  ![v819.toNat, 0]
def k0_dev20 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_652 : BitVec 32 := 16#32
  let v807 : BitVec 32 := Scalar.xori v2 c16_i32_652
  let c1_i32_662 : BitVec 32 := 1#32
  let v820 : BitVec 32 := Scalar.muli v807 c1_i32_662
  let v821 : BitVec 32 := Scalar.addi c0_i32_663 v820
  v821.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x1024 : Shape := ⟨2, ![1024, 1024]⟩
abbrev S1x65536x2x128 : Shape := ⟨4, ![1, 65536, 2, 128]⟩
abbrev S1x512x8x128 : Shape := ⟨4, ![1, 512, 8, 128]⟩
abbrev S1x65536x2x4x128 : Shape := ⟨5, ![1, 65536, 2, 4, 128]⟩
abbrev S1x65536x8x128 : Shape := ⟨4, ![1, 65536, 8, 128]⟩
abbrev S1x8x512x65536 : Shape := ⟨4, ![1, 8, 512, 65536]⟩
abbrev S_ : Shape := ⟨0, ![]⟩
abbrev S1x8x512 : Shape := ⟨3, ![1, 8, 512]⟩
abbrev S1x8x512x1 : Shape := ⟨4, ![1, 8, 512, 1]⟩
abbrev S1x8x128x512 : Shape := ⟨4, ![1, 8, 128, 512]⟩
abbrev S1x512x8x1 : Shape := ⟨4, ![1, 512, 8, 1]⟩
abbrev S512x1024 : Shape := ⟨2, ![512, 1024]⟩

abbrev nBuf : Space → Nat
  | .hbm => 32
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x65536x2x128, .f32⟩
  | .hbm, ⟨3, _⟩ => ⟨S1x65536x2x128, .f32⟩
  | .hbm, ⟨4, _⟩ => ⟨S1024x1024, .f32⟩
  | .hbm, ⟨5, _⟩ => ⟨S1x512x1024, .f32⟩
  | .hbm, ⟨6, _⟩ => ⟨S1x512x8x128, .f32⟩
  | .hbm, ⟨7, _⟩ => ⟨S1x65536x2x4x128, .f32⟩
  | .hbm, ⟨8, _⟩ => ⟨S1x65536x8x128, .f32⟩
  | .hbm, ⟨9, _⟩ => ⟨S1x65536x2x4x128, .f32⟩
  | .hbm, ⟨10, _⟩ => ⟨S1x65536x8x128, .f32⟩
  | .hbm, ⟨11, _⟩ => ⟨S1x8x512x65536, .f32⟩
  | .hbm, ⟨12, _⟩ => ⟨S_, .f32⟩
  | .hbm, ⟨13, _⟩ => ⟨S1x8x512x65536, .f32⟩
  | .hbm, ⟨14, _⟩ => ⟨S1x8x512x65536, .f32⟩
  | .hbm, ⟨15, _⟩ => ⟨S_, .f32⟩
  | .hbm, ⟨16, _⟩ => ⟨S1x8x512, .f32⟩
  | .hbm, ⟨17, _⟩ => ⟨S1x8x512x1, .f32⟩
  | .hbm, ⟨18, _⟩ => ⟨S1x8x512x65536, .f32⟩
  | .hbm, ⟨19, _⟩ => ⟨S1x8x512x65536, .f32⟩
  | .hbm, ⟨20, _⟩ => ⟨S1x8x512x65536, .f32⟩
  | .hbm, ⟨21, _⟩ => ⟨S_, .f32⟩
  | .hbm, ⟨22, _⟩ => ⟨S1x8x512, .f32⟩
  | .hbm, ⟨23, _⟩ => ⟨S1x8x512x1, .f32⟩
  | .hbm, ⟨24, _⟩ => ⟨S1x8x128x512, .f32⟩
  | .hbm, ⟨25, _⟩ => ⟨S1x512x8x128, .f32⟩
  | .hbm, ⟨26, _⟩ => ⟨S1x512x8x1, .f32⟩
  | .hbm, ⟨27, _⟩ => ⟨S1x512x8x128, .f32⟩
  | .hbm, ⟨28, _⟩ => ⟨S1x512x8x128, .f32⟩
  | .hbm, ⟨29, _⟩ => ⟨S1x512x1024, .f32⟩
  | .hbm, ⟨30, _⟩ => ⟨S1x512x1024, .f32⟩
  | .hbm, ⟨31, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.KiProg.lean ====
/-
  The kernel's body as a sequence of PHASES. The printed body is two hundred memory operations in one line; here it is cut
  into the phases that its author wrote as loops: the barrier, one step per attention head, one exchange per round of the
  halving reduction, one term per head of the final projection, one exchange per round of the doubling gather. Each phase
  is a program over what differs between its iterations — offsets, sizes, semaphores, the peer — and `body_eq` says that
  the printed body is their sequence.
-/
module

public import proofs.«01_k».proof.Proof.Gen.KernelIdeal
public import proofs.«01_k».proof.Proof.Gen.KernelIdeal.Skeleton

@[expose] public section

noncomputable section

namespace Cert.KernelIdeal.Own

open Cert.KernelIdeal Cert.KernelIdeal.Gen
open Idealize.ShloMosaic Idealize.SL.Sem

variable {F : FTy → Type} [FloatOps F]

/-- A program of the kernel's core. -/
abbrev Pg (α : Type) := Prog (TpuEff nD τ sig (Elt F) Λ₀ .tc) α

/-! ### The buffers -/

abbrev xM : Memref sig .tc .vmem S1x512x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .vmem S1x2048x2x128 .f32 := Memref.whole cc0_stg3_0
abbrev vM : Memref sig .tc .vmem S1x2048x2x128 .f32 := Memref.whole cc0_stg4_0
abbrev outM : Memref sig .tc .vmem S512x1024 .f32 := Memref.whole cc0_stg5_0
/-- The running numerators, `[row, head, feature]`. -/
abbrev aoM : Memref sig .tc .vmem S512x8x128 .f32 := Memref.whole cc0_scratch0
/-- The running denominators, `[row, head]`. -/
abbrev alM : Memref sig .tc .vmem S512x8 .f32 := Memref.whole cc0_scratch1
/-- Where peers' numerators land, the rounds one under another. -/
abbrev soM : Memref sig .tc .vmem S496x8x128 .f32 := Memref.whole cc0_scratch2
/-- Where peers' denominators land. -/
abbrev slM : Memref sig .tc .vmem S496x8 .f32 := Memref.whole cc0_scratch3

/-- Element `r` of a semaphore array. -/
abbrev el (a : DmaSems sig S5) (r : ℕ) (h : ∀ x, (![r] : Fin 1 → Nat) x + S1.size x ≤ S5.size x) : DmaSem sig :=
  ((a.slice (Rect.unit (s := S5) ![r] S1.size h)).squeeze S_ squeezes_S1_S_).sem

/-- `n` rows of numerators, of denominators, of the result. -/
abbrev RO (n : ℕ) : Shape := ⟨3, ![n, 8, 128]⟩
abbrev RL (n : ℕ) : Shape := ⟨2, ![n, 8]⟩
abbrev RW (n : ℕ) : Shape := ⟨2, ![n, 1024]⟩

abbrev aoAt (n : ℕ) (o : Fin 3 → ℕ) (h : ∀ a, o a + (RO n).size a ≤ S512x8x128.size a) : Memref sig .tc .vmem (RO n) .f32 :=
  aoM.slice (Rect.unit (s := S512x8x128) o (RO n).size h) (fun _ => rfl)
abbrev alAt (n : ℕ) (o : Fin 2 → ℕ) (h : ∀ a, o a + (RL n).size a ≤ S512x8.size a) : Memref sig .tc .vmem (RL n) .f32 :=
  alM.slice (Rect.unit (s := S512x8) o (RL n).size h) (fun _ => rfl)
abbrev soAt (n : ℕ) (o : Fin 3 → ℕ) (h : ∀ a, o a + (RO n).size a ≤ S496x8x128.size a) : Memref sig .tc .vmem (RO n) .f32 :=
  soM.slice (Rect.unit (s := S496x8x128) o (RO n).size h) (fun _ => rfl)
abbrev slAt (n : ℕ) (o : Fin 2 → ℕ) (h : ∀ a, o a + (RL n).size a ≤ S496x8.size a) : Memref sig .tc .vmem (RL n) .f32 :=
  slM.slice (Rect.unit (s := S496x8) o (RL n).size h) (fun _ => rfl)
abbrev outAt (n : ℕ) (o : Fin 2 → ℕ) (h : ∀ a, o a + (RW n).size a ≤ S512x1024.size a) : Memref sig .tc .vmem (RW n) .f32 :=
  outM.slice (Rect.unit (s := S512x1024) o (RW n).size h) (fun _ => rfl)

/-! ### The payloads, at any head -/

/-- The queries, every head's. -/
def qAll (x : Vec F S1x512x1024 .f32) (wq : Vec F S1024x1024 .f32) : FVec F S512x1024 .f32 :=
  k0_pay3 (k0_pay1 x) (k0_pay2 wq) (constant S512x1024 .f32 0x00000000#32)

/-- The exponentials of one head's scaled scores against a key block. -/
def expScores (o : ℕ) (h : S512x1024.Slices ![0, o] S512x128) (q : FVec F S512x1024 .f32) (kk : Vec F S1x2048x1x128 .f32) : FVec F S512x2048 .f32 :=
  exp (mulf (matmul dot_S512x128_S2048x128_S512x2048_1_1_0_0_n_n none (extractStridedSlice S512x128 ![0, o] q h)
      (shapeCast S2048x128 kk shapeCasts_S1x2048x1x128_S2048x128) (constant S512x2048 .f32 0x00000000#32))
    (broadcast S512x2048 (Scalar.ofBits .f32 0x3DB504F3#32)))

/-- Their row sums, as a column. -/
def rowSums (e : FVec F S512x2048 .f32) : FVec F S512x1 .f32 :=
  shapeCast S512x1 (shapeCast S512x1 (multiReduction .add [1] S512 e 0x00000000#32 reduces_S512x2048_S512 (.inl rfl) rfl) shapeCasts_S512_S512x1)
    shapeCasts_S512x1_S512x1

/-- Their product with a value block. -/
def mix (e : FVec F S512x2048 .f32) (vv : Vec F S1x2048x1x128 .f32) : FVec F S512x1x128 .f32 :=
  shapeCast S512x1x128 (matmul dot_S512x2048_S2048x128_S512x128_1_0_0_1_n_n none e
    (shapeCast S2048x128 vv shapeCasts_S1x2048x1x128_S2048x128) (constant S512x128 .f32 0x00000000#32)) shapeCasts_S512x128_S512x1x128

/-- One head's term of a device's sixteen result rows. -/
def headTerm (o : Vec F S16x1x128 .f32) (l : Vec F S16x1 .f32) (w : Vec F S128x1024 .f32) : FVec F S16x1024 .f32 :=
  matmul dot_S16x128_S128x1024_S16x1024_1_0_0_1_n_n none
    (divf (shapeCast S16x128 o shapeCasts_S16x1x128_S16x128) (broadcastTo S16x128 l broadcasts_S16x1_S16x128))
    (shapeCast S128x1024 w shapeCasts_S128x1024_S128x1024) (constant S16x1024 .f32 0x00000000#32)

/-- Two blocks of rows added. -/
def sumO (n : ℕ) (a b : Vec F (RO n) .f32) : FVec F (RO n) .f32 := shapeCast (RO n) (addf a b) rfl
def sumL (n : ℕ) (a b : Vec F (RL n) .f32) : FVec F (RL n) .f32 := shapeCast (RL n) (addf a b) rfl

/-! ### The phases -/

/-- Signals one peer on the barrier's semaphore. -/
def hello (d : Dev nD) : Pg (F := F) PUnit := semSignalWord d (SemArray.scalar (sig.barrier 0 rfl) : Sems sig S_).sem 1#32

/-- One attention head on the device's own keys and values: its column of the denominators and of the numerators. -/
def headStep (q : FVec F S512x1024 .f32) (qo : ℕ) (hq : S512x1024.Slices ![0, qo] S512x128) (h g : ℕ)
    (hkv : ∀ a, (![0, 0, g, 0] : Fin 4 → ℕ) a + S1x2048x1x128.size a ≤ S1x2048x2x128.size a)
    (hl : ∀ a, (![0, h] : Fin 2 → ℕ) a + S512x1.size a ≤ S512x8.size a)
    (ho : ∀ a, (![0, h, 0] : Fin 3 → ℕ) a + S512x1x128.size a ≤ S512x8x128.size a) : Pg (F := F) PUnit := do
  let kk : Vec F S1x2048x1x128 .f32 ← Prog.lift (.load kM (Rect.unit (s := S1x2048x2x128) ![0, 0, g, 0] S1x2048x1x128.size hkv).toLoadRect (View.loadsAt_vmem h_S1x2048x1x128))
  let _l : Vec F S512x1 .f32 ← Prog.lift (.load alM (Rect.unit (s := S512x8) ![0, h] S512x1.size hl).toLoadRect (View.loadsAt_vmem h_S512x1))
  Prog.lift (.store alM (Rect.unit (s := S512x8) ![0, h] S512x1.size hl) (rowSums (expScores qo hq q kk)) Finset.univ (View.stores_vmem_bits_univ h_S512x1 rfl) (.inl rfl))
  let vv : Vec F S1x2048x1x128 .f32 ← Prog.lift (.load vM (Rect.unit (s := S1x2048x2x128) ![0, 0, g, 0] S1x2048x1x128.size hkv).toLoadRect (View.loadsAt_vmem h_S1x2048x1x128))
  let _o : Vec F S512x1x128 .f32 ← Prog.lift (.load aoM (Rect.unit (s := S512x8x128) ![0, h, 0] S512x1x128.size ho).toLoadRect (View.loadsAt_vmem h_S512x1x128))
  Prog.lift (.store aoM (Rect.unit (s := S512x8x128) ![0, h, 0] S512x1x128.size ho) (mix (expScores qo hq q kk) vv) Finset.univ (View.stores_vmem_bits_univ h_S512x1x128 rfl) (.inl rfl))

/-- One round of the halving reduction: sends `n` rows of both accumulators to the peer, waits for the peer's, adds them
    into the `n` rows kept. -/
def foldRound (n : ℕ) (p p' : Dev nD) (so ko oo : Fin 3 → ℕ) (sl kl tl : Fin 2 → ℕ)
    (hso : ∀ a, so a + (RO n).size a ≤ S512x8x128.size a) (hko : ∀ a, ko a + (RO n).size a ≤ S512x8x128.size a)
    (hto : ∀ a, oo a + (RO n).size a ≤ S496x8x128.size a)
    (hsl : ∀ a, sl a + (RL n).size a ≤ S512x8.size a) (hkl : ∀ a, kl a + (RL n).size a ≤ S512x8.size a)
    (htl : ∀ a, tl a + (RL n).size a ≤ S496x8.size a)
    (s₁ r₁ s₂ r₂ : DmaSem sig) (hn : 0 < (RO n).numel) (hn' : 0 < (RL n).numel) : Pg (F := F) PUnit := do
  Prog.lift (.enqueueDma (aoAt n so hso) (.remote (Dev.tc p) (soAt n oo hto) (.dma s₁)) (.dma r₁) (View.wordExact_bits rfl) (View.wordExact_bits rfl) ⟨⟨rfl, Or.inl rfl⟩, trivial⟩)
  Prog.lift (.enqueueDma (alAt n sl hsl) (.remote (Dev.tc p') (slAt n tl htl) (.dma s₂)) (.dma r₂) (View.wordExact_bits rfl) (View.wordExact_bits rfl) ⟨⟨rfl, Or.inl rfl⟩, trivial⟩)
  Prog.lift (.waitDma2 s₁ (soAt n oo hto) (aoAt n so hso) (View.wordExact_bits rfl) (View.wordExact_bits rfl))
  Prog.lift (.waitDma2 r₁ (aoAt n so hso) (soAt n oo hto) (View.wordExact_bits rfl) (View.wordExact_bits rfl))
  Prog.lift (.waitDma2 s₂ (slAt n tl htl) (alAt n sl hsl) (View.wordExact_bits rfl) (View.wordExact_bits rfl))
  Prog.lift (.waitDma2 r₂ (alAt n sl hsl) (slAt n tl htl) (View.wordExact_bits rfl) (View.wordExact_bits rfl))
  let a : Vec F (RO n) .f32 ← Prog.lift (.load aoM (Rect.unit (s := S512x8x128) ko (RO n).size hko).toLoadRect (View.loadsAt_vmem hn))
  let b : Vec F (RO n) .f32 ← Prog.lift (.load soM (Rect.unit (s := S496x8x128) oo (RO n).size hto).toLoadRect (View.loadsAt_vmem hn))
  let _c : Vec F (RO n) .f32 ← Prog.lift (.load aoM (Rect.unit (s := S512x8x128) ko (RO n).size hko).toLoadRect (View.loadsAt_vmem hn))
  Prog.lift (.store aoM (Rect.unit (s := S512x8x128) ko (RO n).size hko) (sumO n a b) Finset.univ (View.stores_vmem_bits_univ hn rfl) (.inl rfl))
  let a' : Vec F (RL n) .f32 ← Prog.lift (.load alM (Rect.unit (s := S512x8) kl (RL n).size hkl).toLoadRect (View.loadsAt_vmem hn'))
  let b' : Vec F (RL n) .f32 ← Prog.lift (.load slM (Rect.unit (s := S496x8) tl (RL n).size htl).toLoadRect (View.loadsAt_vmem hn'))
  let _c' : Vec F (RL n) .f32 ← Prog.lift (.load alM (Rect.unit (s := S512x8) kl (RL n).size hkl).toLoadRect (View.loadsAt_vmem hn'))
  Prog.lift (.store alM (Rect.unit (s := S512x8) kl (RL n).size hkl) (sumL n a' b') Finset.univ (View.stores_vmem_bits_univ hn' rfl) (.inl rfl))

/-- One head's term of the device's own sixteen rows. -/
def projStep (wo : ℕ) (o : Fin 3 → ℕ) (l : Fin 2 → ℕ) (ho : ∀ a, o a + S16x1x128.size a ≤ S512x8x128.size a)
    (hl : ∀ a, l a + S16x1.size a ≤ S512x8.size a)
    (hw : ∀ a, (![wo, 0] : Fin 2 → ℕ) a + S128x1024.size a ≤ S1024x1024.size a) : Pg (F := F) (FVec F S16x1024 .f32) := do
  let vo : Vec F S16x1x128 .f32 ← Prog.lift (.load aoM (Rect.unit (s := S512x8x128) o S16x1x128.size ho).toLoadRect (View.loadsAt_vmem h_S16x1x128))
  let vl : Vec F S16x1 .f32 ← Prog.lift (.load alM (Rect.unit (s := S512x8) l S16x1.size hl).toLoadRect (View.loadsAt_vmem h_S16x1))
  let vw : Vec F S128x1024 .f32 ← Prog.lift (.load woM (Rect.unit (s := S1024x1024) ![wo, 0] S128x1024.size hw).toLoadRect (View.loadsAt_vmem h_S128x1024))
  pure (headTerm vo vl vw)

/-- The device's own sixteen rows stored into the result. -/
def putRows (o : Fin 2 → ℕ) (ho : ∀ a, o a + S16x1024.size a ≤ S512x1024.size a) (y : FVec F S16x1024 .f32) : Pg (F := F) PUnit := do
  let _y : Vec F S16x1024 .f32 ← Prog.lift (.load outM (Rect.unit (s := S512x1024) o S16x1024.size ho).toLoadRect (View.loadsAt_vmem h_S16x1024))
  Prog.lift (.store outM (Rect.unit (s := S512x1024) o S16x1024.size ho) y Finset.univ (View.stores_vmem_bits_univ h_S16x1024 rfl) (.inl rfl))

/-- One round of the doubling gather: sends the `n` rows held so far to the peer, waits for the peer's. -/
def spreadRound (n : ℕ) (p : Dev nD) (o : Fin 2 → ℕ) (ho : ∀ a, o a + (RW n).size a ≤ S512x1024.size a) (s r : DmaSem sig) : Pg (F := F) PUnit := do
  Prog.lift (.enqueueDma (outAt n o ho) (.remote (Dev.tc p) (outAt n o ho) (.dma s)) (.dma r) (View.wordExact_bits rfl) (View.wordExact_bits rfl) ⟨⟨rfl, Or.inl rfl⟩, trivial⟩)
  Prog.lift (.waitDma2 s (outAt n o ho) (outAt n o ho) (View.wordExact_bits rfl) (View.wordExact_bits rfl))
  Prog.lift (.waitDma2 r (outAt n o ho) (outAt n o ho) (View.wordExact_bits rfl) (View.wordExact_bits rfl))

/-- The body, phase after phase. -/
def phases : Pg (F := F) PUnit := do
  let d : Dev nD ← Prog.lift .deviceId
  hello ⟨k0_dev1 d, k0_dev1_lt d⟩
  hello ⟨k0_dev2 d, k0_dev2_lt d⟩
  hello ⟨k0_dev3 d, k0_dev3_lt d⟩
  hello ⟨k0_dev4 d, k0_dev4_lt d⟩
  hello ⟨k0_dev5 d, k0_dev5_lt d⟩
  semWaitWord (SemArray.scalar (sig.barrier 0 rfl) : Sems sig S_).sem 5#32
  let x : Vec F S1x512x1024 .f32 ← Prog.lift (.load xM (Rect.unit (s := S1x512x1024) ![0, 0, 0] S1x512x1024.size inb_S1x512x1024_S1x512x1024_0_0_0).toLoadRect (View.loadsAt_vmem h_S1x512x1024))
  let wq : Vec F S1024x1024 .f32 ← Prog.lift (.load wqM (Rect.unit (s := S1024x1024) ![0, 0] S1024x1024.size inb_S1024x1024_S1024x1024_0_0).toLoadRect (View.loadsAt_vmem h_S1024x1024))
  headStep (qAll x wq) 0 slices_S512x1024_o0_0_S512x128 0 0 inb_S1x2048x2x128_S1x2048x1x128_0_0_0_0 inb_S512x8_S512x1_0_0 inb_S512x8x128_S512x1x128_0_0_0
  headStep (qAll x wq) 128 slices_S512x1024_o0_128_S512x128 1 0 inb_S1x2048x2x128_S1x2048x1x128_0_0_0_0 inb_S512x8_S512x1_0_1 inb_S512x8x128_S512x1x128_0_1_0
  headStep (qAll x wq) 256 slices_S512x1024_o0_256_S512x128 2 0 inb_S1x2048x2x128_S1x2048x1x128_0_0_0_0 inb_S512x8_S512x1_0_2 inb_S512x8x128_S512x1x128_0_2_0
  headStep (qAll x wq) 384 slices_S512x1024_o0_384_S512x128 3 0 inb_S1x2048x2x128_S1x2048x1x128_0_0_0_0 inb_S512x8_S512x1_0_3 inb_S512x8x128_S512x1x128_0_3_0
  headStep (qAll x wq) 512 slices_S512x1024_o0_512_S512x128 4 1 inb_S1x2048x2x128_S1x2048x1x128_0_0_1_0 inb_S512x8_S512x1_0_4 inb_S512x8x128_S512x1x128_0_4_0
  headStep (qAll x wq) 640 slices_S512x1024_o0_640_S512x128 5 1 inb_S1x2048x2x128_S1x2048x1x128_0_0_1_0 inb_S512x8_S512x1_0_5 inb_S512x8x128_S512x1x128_0_5_0
  headStep (qAll x wq) 768 slices_S512x1024_o0_768_S512x128 6 1 inb_S1x2048x2x128_S1x2048x1x128_0_0_1_0 inb_S512x8_S512x1_0_6 inb_S512x8x128_S512x1x128_0_6_0
  headStep (qAll x wq) 896 slices_S512x1024_o0_896_S512x128 7 1 inb_S1x2048x2x128_S1x2048x1x128_0_0_1_0 inb_S512x8_S512x1_0_7 inb_S512x8x128_S512x1x128_0_7_0
  foldRound 256 ⟨k0_dev6 d, k0_dev6_lt d⟩ ⟨k0_dev7 d, k0_dev7_lt d⟩ (k0_off1 d) (k0_off3 d) ![0, 0, 0] (k0_off2 d) (k0_off4 d) ![0, 0]
    (k0_off1_inb d) (k0_off3_inb d) inb_S496x8x128_S256x8x128_0_0_0 (k0_off2_inb d) (k0_off4_inb d) inb_S496x8_S256x8_0_0
    (el cc0_scratch4 0 inb_S5_S1_0) (el cc0_scratch5 0 inb_S5_S1_0) (el cc0_scratch6 0 inb_S5_S1_0) (el cc0_scratch7 0 inb_S5_S1_0) h_S256x8x128 h_S256x8
  foldRound 128 ⟨k0_dev8 d, k0_dev8_lt d⟩ ⟨k0_dev9 d, k0_dev9_lt d⟩ (k0_off5 d) (k0_off7 d) ![256, 0, 0] (k0_off6 d) (k0_off8 d) ![256, 0]
    (k0_off5_inb d) (k0_off7_inb d) inb_S496x8x128_S128x8x128_256_0_0 (k0_off6_inb d) (k0_off8_inb d) inb_S496x8_S128x8_256_0
    (el cc0_scratch4 1 inb_S5_S1_1) (el cc0_scratch5 1 inb_S5_S1_1) (el cc0_scratch6 1 inb_S5_S1_1) (el cc0_scratch7 1 inb_S5_S1_1) h_S128x8x128 h_S128x8
  foldRound 64 ⟨k0_dev10 d, k0_dev10_lt d⟩ ⟨k0_dev11 d, k0_dev11_lt d⟩ (k0_off9 d) (k0_off11 d) ![384, 0, 0] (k0_off10 d) (k0_off12 d) ![384, 0]
    (k0_off9_inb d) (k0_off11_inb d) inb_S496x8x128_S64x8x128_384_0_0 (k0_off10_inb d) (k0_off12_inb d) inb_S496x8_S64x8_384_0
    (el cc0_scratch4 2 inb_S5_S1_2) (el cc0_scratch5 2 inb_S5_S1_2) (el cc0_scratch6 2 inb_S5_S1_2) (el cc0_scratch7 2 inb_S5_S1_2) h_S64x8x128 h_S64x8
  foldRound 32 ⟨k0_dev12 d, k0_dev12_lt d⟩ ⟨k0_dev13 d, k0_dev13_lt d⟩ (k0_off13 d) (k0_off15 d) ![448, 0, 0] (k0_off14 d) (k0_off16 d) ![448, 0]
    (k0_off13_inb d) (k0_off15_inb d) inb_S496x8x128_S32x8x128_448_0_0 (k0_off14_inb d) (k0_off16_inb d) inb_S496x8_S32x8_448_0
    (el cc0_scratch4 3 inb_S5_S1_3) (el cc0_scratch5 3 inb_S5_S1_3) (el cc0_scratch6 3 inb_S5_S1_3) (el cc0_scratch7 3 inb_S5_S1_3) h_S32x8x128 h_S32x8
  foldRound 16 ⟨k0_dev14 d, k0_dev14_lt d⟩ ⟨k0_dev15 d, k0_dev15_lt d⟩ (k0_off17 d) (k0_off19 d) ![480, 0, 0] (k0_off18 d) (k0_off20 d) ![480, 0]
    (k0_off17_inb d) (k0_off19_inb d) inb_S496x8x128_S16x8x128_480_0_0 (k0_off18_inb d) (k0_off20_inb d) inb_S496x8_S16x8_480_0
    (el cc0_scratch4 4 inb_S5_S1_4) (el cc0_scratch5 4 inb_S5_S1_4) (el cc0_scratch6 4 inb_S5_S1_4) (el cc0_scratch7 4 inb_S5_S1_4) h_S16x8x128 h_S16x8
  let t0 : FVec F S16x1024 .f32 ← projStep 0 (k0_off21 d) (k0_off22 d) (k0_off21_inb d) (k0_off22_inb d) inb_S1024x1024_S128x1024_0_0
  let t1 : FVec F S16x1024 .f32 ← projStep 128 (k0_off23 d) (k0_off24 d) (k0_off23_inb d) (k0_off24_inb d) inb_S1024x1024_S128x1024_128_0
  let t2 : FVec F S16x1024 .f32 ← projStep 256 (k0_off25 d) (k0_off26 d) (k0_off25_inb d) (k0_off26_inb d) inb_S1024x1024_S128x1024_256_0
  let t3 : FVec F S16x1024 .f32 ← projStep 384 (k0_off27 d) (k0_off28 d) (k0_off27_inb d) (k0_off28_inb d) inb_S1024x1024_S128x1024_384_0
  let t4 : FVec F S16x1024 .f32 ← projStep 512 (k0_off29 d) (k0_off30 d) (k0_off29_inb d) (k0_off30_inb d) inb_S1024x1024_S128x1024_512_0
  let t5 : FVec F S16x1024 .f32 ← projStep 640 (k0_off31 d) (k0_off32 d) (k0_off31_inb d) (k0_off32_inb d) inb_S1024x1024_S128x1024_640_0
  let t6 : FVec F S16x1024 .f32 ← projStep 768 (k0_off33 d) (k0_off34 d) (k0_off33_inb d) (k0_off34_inb d) inb_S1024x1024_S128x1024_768_0
  let t7 : FVec F S16x1024 .f32 ← projStep 896 (k0_off35 d) (k0_off36 d) (k0_off35_inb d) (k0_off36_inb d) inb_S1024x1024_S128x1024_896_0
  putRows (k0_off37 d) (k0_off37_inb d) (addf (addf (addf (addf (addf (addf (addf t0 t1) t2) t3) t4) t5) t6) t7)
  spreadRound 16 ⟨k0_dev16 d, k0_dev16_lt d⟩ (k0_off38 d) (k0_off38_inb d) (el cc0_scratch8 0 inb_S5_S1_0) (el cc0_scratch9 0 inb_S5_S1_0)
  spreadRound 32 ⟨k0_dev17 d, k0_dev17_lt d⟩ (k0_off39 d) (k0_off39_inb d) (el cc0_scratch8 1 inb_S5_S1_1) (el cc0_scratch9 1 inb_S5_S1_1)
  spreadRound 64 ⟨k0_dev18 d, k0_dev18_lt d⟩ (k0_off40 d) (k0_off40_inb d) (el cc0_scratch8 2 inb_S5_S1_2) (el cc0_scratch9 2 inb_S5_S1_2)
  spreadRound 128 ⟨k0_dev19 d, k0_dev19_lt d⟩ (k0_off41 d) (k0_off41_inb d) (el cc0_scratch8 3 inb_S5_S1_3) (el cc0_scratch9 3 inb_S5_S1_3)
  spreadRound 256 ⟨k0_dev20 d, k0_dev20_lt d⟩ (k0_off42 d) (k0_off42_inb d) (el cc0_scratch8 4 inb_S5_S1_4) (el cc0_scratch9 4 inb_S5_S1_4)

set_option maxRecDepth 65536 in
set_option maxHeartbeats 4000000 in
/-- The printed body is the phases in sequence. -/
theorem body_eq : cc0__body (F := F) xM (Memref.isWhole_whole _) wqM (Memref.isWhole_whole _) woM (Memref.isWhole_whole _) kM (Memref.isWhole_whole _) vM (Memref.isWhole_whole _)
    outM (Memref.isWhole_whole _) aoM (Memref.isWhole_whole _) alM (Memref.isWhole_whole _) soM (Memref.isWhole_whole _) slM (Memref.isWhole_whole _)
    cc0_scratch4 cc0_scratch5 cc0_scratch6 cc0_scratch7 cc0_scratch8 cc0_scratch9 = phases := rfl

end Cert.KernelIdeal.Own
end
-- ==== Proof.KiGeo.lean ====
/-
  The exchange's geometry and the contents every buffer holds at every moment of it.

  The thirty-two devices are indexed by five bits. In the exchange on bit `k` device `c` meets `pr k c`, the device whose
  index differs in that bit alone; `lo k c` is the first of the `sz k` rows that `c` is left with after the halving step on
  bit `k`. The halving reduction runs the bits downwards (round `r` on bit `4 - r`), the doubling gather upwards.
-/
module

public import proofs.«01_k».proof.Proof.KiProg
public import Idealize.ShloMosaic.Lib.ValueIdx
public import Idealize.ShloMosaic.Lib.Pipeline.Value

@[expose] public section

noncomputable section

namespace Cert.KernelIdeal.Own

open Cert.KernelIdeal Cert.KernelIdeal.Gen
open Idealize.ShloMosaic Idealize.ShloMosaic.ValueIdx Idealize.SL.Sem

variable {F : FTy → Type} [FloatOps F]

/-! ### Peers and rows -/

set_option backward.proofsInPublic true in
/-- The peer across bit `k`. -/
def pr (k : ℕ) (c : Dev nD) : Dev nD := ⟨(c.val ^^^ 2 ^ k) % 32, Nat.mod_lt _ (by decide)⟩
/-- How many rows a device is left with once bit `k` has been halved away. -/
abbrev sz (k : ℕ) : ℕ := 16 * 2 ^ k
/-- The first of those rows. -/
def lo (k : ℕ) (c : Dev nD) : ℕ := c.val / 2 ^ k * (16 * 2 ^ k)
/-- Where the rows of the exchange on bit `k` land in the landing buffers. -/
def toff (k : ℕ) : ℕ := 512 - 2 * (16 * 2 ^ k)

theorem pr_pr : ∀ k : Fin 5, ∀ c : Dev nD, pr k (pr k c) = c := by decide +kernel
theorem lo_le : ∀ k : Fin 5, ∀ c : Dev nD, lo k c + sz k ≤ 512 := by decide +kernel
theorem lo_five (c : Dev nD) : lo 5 c = 0 := by revert c; decide +kernel
theorem toff_le : ∀ k : Fin 5, toff k + sz k ≤ 496 := by decide +kernel
/-- Two peers' rows make up, in one order or the other, the rows both had a step before. -/
theorem lo_split : ∀ k : Fin 5, ∀ c : Dev nD,
    (lo k c = lo (k + 1) c ∧ lo k (pr k c) = lo (k + 1) c + sz k) ∨ (lo k (pr k c) = lo (k + 1) c ∧ lo k c = lo (k + 1) c + sz k) := by
  decide +kernel

/-! ### The printed devices and offsets -/

theorem dev1_eq : ∀ c : Dev nD, (⟨k0_dev1 c, k0_dev1_lt c⟩ : Dev nD) = pr 0 c := by decide +kernel
theorem dev2_eq : ∀ c : Dev nD, (⟨k0_dev2 c, k0_dev2_lt c⟩ : Dev nD) = pr 1 c := by decide +kernel
theorem dev3_eq : ∀ c : Dev nD, (⟨k0_dev3 c, k0_dev3_lt c⟩ : Dev nD) = pr 2 c := by decide +kernel
theorem dev4_eq : ∀ c : Dev nD, (⟨k0_dev4 c, k0_dev4_lt c⟩ : Dev nD) = pr 3 c := by decide +kernel
theorem dev5_eq : ∀ c : Dev nD, (⟨k0_dev5 c, k0_dev5_lt c⟩ : Dev nD) = pr 4 c := by decide +kernel
theorem dev6_eq : ∀ c : Dev nD, (⟨k0_dev6 c, k0_dev6_lt c⟩ : Dev nD) = pr 4 c := by decide +kernel
theorem dev7_eq : ∀ c : Dev nD, (⟨k0_dev7 c, k0_dev7_lt c⟩ : Dev nD) = pr 4 c := by decide +kernel
theorem dev8_eq : ∀ c : Dev nD, (⟨k0_dev8 c, k0_dev8_lt c⟩ : Dev nD) = pr 3 c := by decide +kernel
theorem dev9_eq : ∀ c : Dev nD, (⟨k0_dev9 c, k0_dev9_lt c⟩ : Dev nD) = pr 3 c := by decide +kernel
theorem dev10_eq : ∀ c : Dev nD, (⟨k0_dev10 c, k0_dev10_lt c⟩ : Dev nD) = pr 2 c := by decide +kernel
theorem dev11_eq : ∀ c : Dev nD, (⟨k0_dev11 c, k0_dev11_lt c⟩ : Dev nD) = pr 2 c := by decide +kernel
theorem dev12_eq : ∀ c : Dev nD, (⟨k0_dev12 c, k0_dev12_lt c⟩ : Dev nD) = pr 1 c := by decide +kernel
theorem dev13_eq : ∀ c : Dev nD, (⟨k0_dev13 c, k0_dev13_lt c⟩ : Dev nD) = pr 1 c := by decide +kernel
theorem dev14_eq : ∀ c : Dev nD, (⟨k0_dev14 c, k0_dev14_lt c⟩ : Dev nD) = pr 0 c := by decide +kernel
theorem dev15_eq : ∀ c : Dev nD, (⟨k0_dev15 c, k0_dev15_lt c⟩ : Dev nD) = pr 0 c := by decide +kernel
theorem dev16_eq : ∀ c : Dev nD, (⟨k0_dev16 c, k0_dev16_lt c⟩ : Dev nD) = pr 0 c := by decide +kernel
theorem dev17_eq : ∀ c : Dev nD, (⟨k0_dev17 c, k0_dev17_lt c⟩ : Dev nD) = pr 1 c := by decide +kernel
theorem dev18_eq : ∀ c : Dev nD, (⟨k0_dev18 c, k0_dev18_lt c⟩ : Dev nD) = pr 2 c := by decide +kernel
theorem dev19_eq : ∀ c : Dev nD, (⟨k0_dev19 c, k0_dev19_lt c⟩ : Dev nD) = pr 3 c := by decide +kernel
theorem dev20_eq : ∀ c : Dev nD, (⟨k0_dev20 c, k0_dev20_lt c⟩ : Dev nD) = pr 4 c := by decide +kernel

/-- The rows sent and kept in the five halving rounds. -/
theorem off_fold : ∀ c : Dev nD,
    (k0_off1 c = ![lo 4 (pr 4 c), 0, 0] ∧ k0_off2 c = ![lo 4 (pr 4 c), 0] ∧ k0_off3 c = ![lo 4 c, 0, 0] ∧ k0_off4 c = ![lo 4 c, 0])
    ∧ (k0_off5 c = ![lo 3 (pr 3 c), 0, 0] ∧ k0_off6 c = ![lo 3 (pr 3 c), 0] ∧ k0_off7 c = ![lo 3 c, 0, 0] ∧ k0_off8 c = ![lo 3 c, 0])
    ∧ (k0_off9 c = ![lo 2 (pr 2 c), 0, 0] ∧ k0_off10 c = ![lo 2 (pr 2 c), 0] ∧ k0_off11 c = ![lo 2 c, 0, 0] ∧ k0_off12 c = ![lo 2 c, 0])
    ∧ (k0_off13 c = ![lo 1 (pr 1 c), 0, 0] ∧ k0_off14 c = ![lo 1 (pr 1 c), 0] ∧ k0_off15 c = ![lo 1 c, 0, 0] ∧ k0_off16 c = ![lo 1 c, 0])
    ∧ (k0_off17 c = ![lo 0 (pr 0 c), 0, 0] ∧ k0_off18 c = ![lo 0 (pr 0 c), 0] ∧ k0_off19 c = ![lo 0 c, 0, 0] ∧ k0_off20 c = ![lo 0 c, 0]) := by
  decide +kernel
/-- The own sixteen rows, head after head. -/
theorem off_proj : ∀ c : Dev nD,
    (k0_off21 c = ![lo 0 c, 0, 0] ∧ k0_off22 c = ![lo 0 c, 0]) ∧ (k0_off23 c = ![lo 0 c, 1, 0] ∧ k0_off24 c = ![lo 0 c, 1])
    ∧ (k0_off25 c = ![lo 0 c, 2, 0] ∧ k0_off26 c = ![lo 0 c, 2]) ∧ (k0_off27 c = ![lo 0 c, 3, 0] ∧ k0_off28 c = ![lo 0 c, 3])
    ∧ (k0_off29 c = ![lo 0 c, 4, 0] ∧ k0_off30 c = ![lo 0 c, 4]) ∧ (k0_off31 c = ![lo 0 c, 5, 0] ∧ k0_off32 c = ![lo 0 c, 5])
    ∧ (k0_off33 c = ![lo 0 c, 6, 0] ∧ k0_off34 c = ![lo 0 c, 6]) ∧ (k0_off35 c = ![lo 0 c, 7, 0] ∧ k0_off36 c = ![lo 0 c, 7])
    ∧ k0_off37 c = ![lo 0 c, 0] := by
  decide +kernel
/-- The rows sent in the five doubling rounds. -/
theorem off_spread : ∀ c : Dev nD, k0_off38 c = ![lo 0 c, 0] ∧ k0_off39 c = ![lo 1 c, 0] ∧ k0_off40 c = ![lo 2 c, 0]
    ∧ k0_off41 c = ![lo 3 c, 0] ∧ k0_off42 c = ![lo 4 c, 0] := by
  decide +kernel

/-! ### Sets of rows -/

/-- The indices of a buffer whose coordinate along axis `z` is among the `n` from `l` on. -/
def rows (s : Shape) (z : Fin s.rank) (l n : ℕ) : Finset s.Idx := Finset.univ.filter fun i => l ≤ (i z : ℕ) ∧ (i z : ℕ) < l + n

theorem mem_rows {s : Shape} {z : Fin s.rank} {l n : ℕ} {i : s.Idx} : i ∈ rows s z l n ↔ l ≤ (i z : ℕ) ∧ (i z : ℕ) < l + n := by
  simp [rows]
theorem rows_all (s : Shape) (z : Fin s.rank) : rows s z 0 (s.size z) = Finset.univ := by
  ext i; simpa [mem_rows] using (i z).isLt
theorem rows_add (s : Shape) (z : Fin s.rank) (l n n' : ℕ) : rows s z l (n + n') = rows s z l n ∪ rows s z (l + n) n' := by
  ext i; simp only [mem_rows, Finset.mem_union]; omega
theorem rows_disj (s : Shape) (z : Fin s.rank) {l n l' n' : ℕ} (h : l + n ≤ l' ∨ l' + n' ≤ l) : Disjoint (rows s z l n) (rows s z l' n') := by
  rw [Finset.disjoint_left]; intro i; simp only [mem_rows]; omega
/-- A rectangle that is whole along every other axis is a set of rows. -/
theorem rect_rows {s : Shape} {z : Fin s.rank} {o sz : Fin s.rank → ℕ} {h : ∀ a, o a + sz a ≤ s.size a}
    (hz : ∀ a, a ≠ z → o a = 0 ∧ sz a = s.size a) : (Rect.unit (s := s) o sz h).set = rows s z (o z) (sz z) := by
  ext i
  rw [Rect.mem_set_unit, mem_rows]
  constructor
  · intro H; exact H z
  · intro H a
    by_cases ha : a = z
    · subst ha; exact H
    · rw [(hz a ha).1, (hz a ha).2, Nat.zero_add]; exact ⟨Nat.zero_le _, (i a).isLt⟩

/-- What a copy leaves at its target, read element by element. -/
theorem landed_on {κ κ' : Kind} {sp sp' : Space} {s : Shape} {e : EltTy} (v : View sig κ sp s e) (w : View sig κ' sp' s e)
    {fs : v.ref.ty.Contents (Elt F)} {fd g : w.ref.ty.Contents (Elt F)} (h : ∀ j, v.read (Elt F) fs j = w.read (Elt F) g j) :
    ∀ i ∈ w.set, w.write (Elt F) fd (v.read (Elt F) fs) Finset.univ i = g i := by
  intro i hi
  obtain ⟨j, -, rfl⟩ := Finset.mem_map.mp hi
  rw [View.write_emb_of_mem, h j, View.read_apply]
  on_goal 2 => exact Finset.mem_univ j
  simp

/-! ### The contents -/

variable (m : (ℓ : Loc nD τ sig) → Buf (Elt F) ℓ)

/-- A device's five inputs, as staged. -/
def xS (c : Dev nD) : Vec F S1x512x1024 .f32 := (win0_0.blk (0 : Fin 1)).view.read (Elt F) (m ((Dev.tc c : Thread nD τ).loc main_arg0))
def wqS (c : Dev nD) : Vec F S1024x1024 .f32 := (win0_1.blk (0 : Fin 1)).view.read (Elt F) (m ((Dev.tc c : Thread nD τ).loc main_arg1))
def woS (c : Dev nD) : Vec F S1024x1024 .f32 := (win0_2.blk (0 : Fin 1)).view.read (Elt F) (m ((Dev.tc c : Thread nD τ).loc main_arg4))
def kS (c : Dev nD) : Vec F S1x2048x2x128 .f32 := (win0_3.blk (0 : Fin 1)).view.read (Elt F) (m ((Dev.tc c : Thread nD τ).loc main_arg2))
def vS (c : Dev nD) : Vec F S1x2048x2x128 .f32 := (win0_4.blk (0 : Fin 1)).view.read (Elt F) (m ((Dev.tc c : Thread nD τ).loc main_arg3))

theorem slices_q : ∀ h : Fin 8, S512x1024.Slices ![0, 128 * (h : ℕ)] S512x128 := by decide +kernel

/-- The group of key or value heads that head `h` uses, out of a block's two. -/
def group (b : Vec F S1x2048x2x128 .f32) (g : Fin 2) : Vec F S1x2048x1x128 .f32 := fun j => b (ix4 (j 0) (j 1) g (j 3))

/-- One head's exponentials on device `c`'s keys, its column of denominators and of numerators. -/
def expH (c : Dev nD) (h : Fin 8) : FVec F S512x2048 .f32 :=
  expScores (128 * (h : ℕ)) (slices_q h) (qAll (xS m c) (wqS m c)) (group (kS m c) ⟨h / 4, by omega⟩)
def colL (c : Dev nD) (h : Fin 8) : FVec F S512x1 .f32 := rowSums (expH m c h)
def colO (c : Dev nD) (h : Fin 8) : FVec F S512x1x128 .f32 := mix (expH m c h) (group (vS m c) ⟨h / 4, by omega⟩)

/-- The accumulators once every head is done. -/
def initL (c : Dev nD) : Vec F S512x8 .f32 := fun i => colL m c (i 1) (ix2 (i 0) 0)
def initO (c : Dev nD) : Vec F S512x8x128 .f32 := fun i => colO m c (i 1) (ix3 (i 0) 0 (i 2))

/-- A buffer of rows through the halving reduction: in round `r` every device adds, into the rows it keeps, what its peer
    across bit `4 - r` holds in them. -/
def halve (s : Shape) (z : Fin s.rank) (f : Dev nD → Vec F s .f32) : ℕ → Dev nD → Vec F s .f32
  | 0, c => f c
  | r + 1, c => fun i => if i ∈ rows s z (lo (4 - r) c) (sz (4 - r))
      then FloatOps.addf (halve s z f r c i) (halve s z f r (pr (4 - r) c) i) else halve s z f r c i

def accO (r : ℕ) (c : Dev nD) : Vec F S512x8x128 .f32 := halve S512x8x128 0 (initO m) r c
def accL (r : ℕ) (c : Dev nD) : Vec F S512x8 .f32 := halve S512x8 0 (initL m) r c

/-- What round `r` lands on device `c`: the peer's partial sums of the rows `c` keeps. -/
def landO (r : ℕ) (c : Dev nD) : Vec F S496x8x128 .f32 := fun i =>
  accO m r (pr (4 - r) c) (ix3 ⟨((i 0 : ℕ) - toff (4 - r) + lo (4 - r) c) % 512, Nat.mod_lt _ (by decide)⟩ (i 1) (i 2))
def landL (r : ℕ) (c : Dev nD) : Vec F S496x8 .f32 := fun i =>
  accL m r (pr (4 - r) c) (ix2 ⟨((i 0 : ℕ) - toff (4 - r) + lo (4 - r) c) % 512, Nat.mod_lt _ (by decide)⟩ (i 1))

/-- One head's term of device `c`'s sixteen rows, and the eight added up. -/
def termH (c : Dev nD) (h : Fin 8) : FVec F S16x1024 .f32 :=
  headTerm (fun j : S16x1x128.Idx => accO m 5 c (ix3 ⟨(lo 0 c + (j 0 : ℕ)) % 512, Nat.mod_lt _ (by decide)⟩ h (j 2)))
    (fun j : S16x1.Idx => accL m 5 c (ix2 ⟨(lo 0 c + (j 0 : ℕ)) % 512, Nat.mod_lt _ (by decide)⟩ h))
    (fun j : S128x1024.Idx => woS m c (ix2 ⟨(128 * (h : ℕ) + (j 0 : ℕ)) % 1024, Nat.mod_lt _ (by decide)⟩ (j 1)))
def outBlk (c : Dev nD) : FVec F S16x1024 .f32 :=
  addf (addf (addf (addf (addf (addf (addf (termH m c 0) (termH m c 1)) (termH m c 2)) (termH m c 3)) (termH m c 4)) (termH m c 5)) (termH m c 6)) (termH m c 7)

/-- The result: device `i / 16`'s block holds row `i`. Every copy of the gather moves rows of it. -/
def outAll : Vec F S512x1024 .f32 := fun i =>
  outBlk m ⟨(i 0 : ℕ) / 16, by have : (i 0 : ℕ) < 512 := (i 0).isLt; show _ < 32; omega⟩ (ix2 ⟨(i 0 : ℕ) % 16, Nat.mod_lt _ (by decide)⟩ (i 1))

end Cert.KernelIdeal.Own
end
-- ==== Proof.KiPlan.lean ====
/-
  The exchange's protocol: per semaphore, who waits on it, who raises it, by how much, and what each raise hands over.

  - The barrier semaphore of device `c` is raised once by each of its five peers; the raise from the peer across bit `k`
    hands `c` everything of that peer's that `c` will write into: the peer's landing rows for bit `k` in both landing
    buffers, and the rows of the peer's result that `c` fills in the gather. `c` waits for all five.
  - Each halving round has, for numerators and for denominators, a send semaphore (raised by the device's own copy; hands
    the sent rows back) and a receive semaphore (raised by the peer's copy; hands over the landing rows holding the peer's
    partial sums).
  - Each doubling round has a send and a receive semaphore; both hand over rows of the one result.

  A device waits on its barrier before it sends anything, and on a round's receive semaphores only after it has sent all
  that the peer waits for in that round; so the levels are: staging and send semaphores 0, barrier 1, then one per round.
-/
module

public import proofs.«01_k».proof.Proof.KiGeo
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Own

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ### The resource algebra: the pipeline's copy and the exchange's, whose duties are named by bits -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ### The semaphores -/

/-- The barrier's semaphore. -/
abbrev barS : Sem sig := (SemArray.scalar (sig.barrier 0 rfl) : Sems sig S_).sem

/-- A semaphore of the exchange: `none` the barrier's; `some (g, r)` element `r` of array `g` — numerators sent, numerators
    received, denominators sent, denominators received, result rows sent, result rows received. -/
abbrev Ck : Type := Option (Fin 6 × Fin 5)

set_option backward.proofsInPublic true in
def dsem (g : Fin 6) (r : Fin 5) : DmaSem sig := ⟨6 + 5 * (g : ℕ) + (r : ℕ), by have : sig.nDmaSem = 36 := rfl; omega⟩
def semOf : Ck → SemLoc sig
  | none => .reg barS
  | some (g, r) => .dma (dsem g r)
abbrev kcell (x : Dev nD × Ck) : GSem nD τ sig := ((x.1 : Thread nD τ), semOf x.2)

set_option backward.proofsInPublic true in
/-- Which semaphore of the exchange a semaphore is, if any. -/
def ckOf : SemLoc sig → Option Ck
  | .reg s => if s = barS then some none else none
  | .dma q => if h : 6 ≤ q.val ∧ q.val < 36 then some (some (⟨(q.val - 6) / 5, by omega⟩, ⟨(q.val - 6) % 5, by omega⟩)) else none

theorem ckOf_semOf : ∀ k : Ck, ckOf (semOf k) = some k := by
  rintro (_ | ⟨g, r⟩)
  · show (if barS = barS then some none else none) = some (none : Ck)
    exact if_pos rfl
  · have hv : (dsem g r).val = 6 + 5 * (g : ℕ) + (r : ℕ) := rfl
    show (if h : 6 ≤ (dsem g r).val ∧ (dsem g r).val < 36 then _ else none) = _
    rw [dif_pos (by rw [hv]; omega)]
    congr 3 <;> (apply Fin.ext; show _ = _; simp only [hv]; omega)

theorem el_inb : ∀ r : Fin 5, ∀ x, (![(r : ℕ)] : Fin 1 → Nat) x + S1.size x ≤ S5.size x := by decide
/-- The elements of the six semaphore arrays. -/
theorem el_eq : ∀ r : Fin 5, el cc0_scratch4 r (el_inb r) = dsem 0 r ∧ el cc0_scratch5 r (el_inb r) = dsem 1 r ∧ el cc0_scratch6 r (el_inb r) = dsem 2 r
    ∧ el cc0_scratch7 r (el_inb r) = dsem 3 r ∧ el cc0_scratch8 r (el_inb r) = dsem 4 r ∧ el cc0_scratch9 r (el_inb r) = dsem 5 r := by
  decide +kernel

/-! ### Amounts -/

def crdO (n : ℕ) : ℕ := (cc0_scratch2 : Ref sig .tc).dmaCredit (RO n) .f32
def crdL (n : ℕ) : ℕ := (cc0_scratch3 : Ref sig .tc).dmaCredit (RL n) .f32
def crdW (n : ℕ) : ℕ := (cc0_stg5_0 : Ref sig .tc).dmaCredit (RW n) .f32

/-- The bit on which round `r` of a semaphore array exchanges. -/
def bit (g : Fin 6) (r : Fin 5) : ℕ := if g < 4 then 4 - (r : ℕ) else r
def crd (g : Fin 6) (r : Fin 5) : ℕ := if g < 2 then crdO (sz (bit g r)) else if g < 4 then crdL (sz (bit g r)) else crdW (sz (bit g r))

theorem crdO_pos (k : ℕ) : 0 < crdO (sz k) :=
  sig.dmaCredit_pos _ _ _ _ _ (by show 0 < Shape.numel (RO (sz k)); simp [Shape.numel, Fin.prod_univ_succ])
theorem crdL_pos (k : ℕ) : 0 < crdL (sz k) :=
  sig.dmaCredit_pos _ _ _ _ _ (by show 0 < Shape.numel (RL (sz k)); simp [Shape.numel, Fin.prod_univ_succ])
theorem crdW_pos (k : ℕ) : 0 < crdW (sz k) :=
  sig.dmaCredit_pos _ _ _ _ _ (by show 0 < Shape.numel (RW (sz k)); simp [Shape.numel, Fin.prod_univ_succ])
theorem crd_pos (g : Fin 6) (r : Fin 5) : 0 < crd g r := by
  unfold crd; split
  · exact crdO_pos _
  split
  · exact crdL_pos _
  · exact crdW_pos _

/-- How much one raise of a semaphore is. -/
def unit : Ck → ℕ
  | none => 1
  | some (g, r) => crd g r
/-- How much its waiter waits for. -/
def total : Ck → ℕ
  | none => 5
  | some (g, r) => crd g r

/-! ### Rows held -/

def aoP (c : Dev nD) (l n : ℕ) (f : Vec F S512x8x128 .f32) : sProp 𝕄 := (c : Thread nD τ).loc cc0_scratch0 ↦[rows S512x8x128 0 l n]{fullShare} f
def alP (c : Dev nD) (l n : ℕ) (f : Vec F S512x8 .f32) : sProp 𝕄 := (c : Thread nD τ).loc cc0_scratch1 ↦[rows S512x8 0 l n]{fullShare} f
def soP (c : Dev nD) (l n : ℕ) (f : Vec F S496x8x128 .f32) : sProp 𝕄 := (c : Thread nD τ).loc cc0_scratch2 ↦[rows S496x8x128 0 l n]{fullShare} f
def slP (c : Dev nD) (l n : ℕ) (f : Vec F S496x8 .f32) : sProp 𝕄 := (c : Thread nD τ).loc cc0_scratch3 ↦[rows S496x8 0 l n]{fullShare} f
def outP (c : Dev nD) (l n : ℕ) (f : Vec F S512x1024 .f32) : sProp 𝕄 := (c : Thread nD τ).loc cc0_stg5_0 ↦[rows S512x1024 0 l n]{fullShare} f

omit [FloatOps F] in
instance aoP_storable (c : Dev nD) (l n f) : BI.Storable (upEmb : UEmb _ 𝕄) (aoP (F := F) c l n f) := by unfold aoP; infer_instance
omit [FloatOps F] in
instance alP_storable (c : Dev nD) (l n f) : BI.Storable (upEmb : UEmb _ 𝕄) (alP (F := F) c l n f) := by unfold alP; infer_instance
omit [FloatOps F] in
instance soP_storable (c : Dev nD) (l n f) : BI.Storable (upEmb : UEmb _ 𝕄) (soP (F := F) c l n f) := by unfold soP; infer_instance
omit [FloatOps F] in
instance slP_storable (c : Dev nD) (l n f) : BI.Storable (upEmb : UEmb _ 𝕄) (slP (F := F) c l n f) := by unfold slP; infer_instance
omit [FloatOps F] in
instance outP_storable (c : Dev nD) (l n f) : BI.Storable (upEmb : UEmb _ 𝕄) (outP (F := F) c l n f) := by unfold outP; infer_instance

/-! ### The schedule -/

/-- What the raise from the peer across bit `k` hands `c`: that peer's rows that `c` will write. -/
def barPay (c : Dev nD) (k : Fin 5) : sProp 𝕄 :=
  iprop((∃ f, soP (pr k c) (toff k) (sz k) f) ∗ (∃ f, slP (pr k c) (toff k) (sz k) f) ∗ (∃ f, outP (pr k c) (lo k c) (sz k) f))

/-- What a raise of `c`'s semaphore hands over. -/
def pay (c : Dev nD) : Ck → Fin 5 → sProp 𝕄
  | none, k => barPay c k
  | some (g, r), _ => match g with
    | 0 => aoP c (lo (4 - r) (pr (4 - r) c)) (sz (4 - r)) (accO m r c)
    | 1 => soP c (toff (4 - r)) (sz (4 - r)) (landO m r c)
    | 2 => alP c (lo (4 - r) (pr (4 - r) c)) (sz (4 - r)) (accL m r c)
    | 3 => slP c (toff (4 - r)) (sz (4 - r)) (landL m r c)
    | 4 => outP c (lo r c) (sz r) (outAll m)
    | 5 => outP c (lo r (pr r c)) (sz r) (outAll m)

instance pay_storable (c : Dev nD) (k : Ck) (d : Fin 5) : BI.Storable (upEmb : UEmb _ 𝕄) (pay (F := F) m c k d) := by
  rcases k with _ | ⟨g, r⟩
  · unfold pay barPay; infer_instance
  · unfold pay; dsimp only; split <;> infer_instance

def duties (k : Ck) : Finset (Fin 5) := match k with
  | none => Finset.univ
  | some _ => {0}

def Rd : Rounds.Schedule (GSem nD τ sig) (Fin 5) 𝕄 where
  duties g r := if r = 0 ∧ g.1.2 = .tc then (match ckOf g.2 with | some k => duties k | none => ∅) else ∅
  unitless _ := False
  amount g _ _ := match ckOf g.2 with | some k => unit k | none => 1
  payload g _ d := match ckOf g.2 with | some k => pay m g.1.1 k d | none => iprop(emp)
  amount_pos g _ _ _ := by
    split
    · next k _ => rcases k with _ | ⟨g, r⟩; exacts [Nat.one_pos, crd_pos g r]
    · exact Nat.one_pos

instance Rd_storable (g : GSem nD τ sig) (r : ℕ) (d : Fin 5) : BI.Storable (upEmb : UEmb _ 𝕄) ((Rd (F := F) m).payload g r d) := by
  show BI.Storable upEmb (match ckOf g.2 with | some k => pay m g.1.1 k d | none => iprop(emp))
  split <;> infer_instance

section Sched
variable (x : Dev nD × Ck)

theorem Rd_duties : (Rd (F := F) m).duties (kcell x) 0 = duties x.2 := by
  dsimp only [Rd]; rw [if_pos ⟨rfl, rfl⟩, ckOf_semOf]
theorem Rd_later (g : GSem nD τ sig) : ∀ r, 1 ≤ r → (Rd (F := F) m).duties g r = ∅ :=
  fun r hr => by dsimp only [Rd]; rw [if_neg fun h => by omega]
theorem Rd_amount (d : Fin 5) : (Rd (F := F) m).amount (kcell x) 0 d = unit x.2 := by
  dsimp only [Rd]; rw [ckOf_semOf]
theorem Rd_payload (d : Fin 5) : (Rd (F := F) m).payload (kcell x) 0 d = pay m x.1 x.2 d := by
  dsimp only [Rd]; rw [ckOf_semOf]
theorem Rd_expect : (Rd (F := F) m).expect (kcell x) 0 = total x.2 := by
  unfold Schedule.expect Schedule.amountOf
  rw [Rd_duties, Finset.sum_congr rfl fun d _ => Rd_amount m x d]
  rcases x with ⟨c, _ | ⟨g, r⟩⟩
  · show (∑ _ : Fin 5, 1) = 5; simp
  · show (∑ _ ∈ ({0} : Finset (Fin 5)), crd g r) = crd g r; simp
theorem Rd_rest_some (c : Dev nD) (g : Fin 6) (r : Fin 5) :
    bigSep ((Rd (F := F) m).duties (kcell (c, some (g, r))) 0 \ ∅) (fun d => (Rd (F := F) m).payload (kcell (c, some (g, r))) 0 d) = pay m c (some (g, r)) 0 := by
  rw [Finset.sdiff_empty, Rd_duties, show duties (some (g, r)) = {0} from rfl, bigSep_singleton, Rd_payload]
theorem Rd_rest_none (c : Dev nD) :
    bigSep ((Rd (F := F) m).duties (kcell (c, none)) 0 \ ∅) (fun d => (Rd (F := F) m).payload (kcell (c, none)) 0 d)
      = iprop(barPay (F := F) c 0 ∗ barPay (F := F) c 1 ∗ barPay (F := F) c 2 ∗ barPay (F := F) c 3 ∗ barPay (F := F) c 4) := by
  rw [Finset.sdiff_empty, Rd_duties, show duties none = Finset.univ from rfl, bigSep_univ_eq_bigSepL [0, 1, 2, 3, 4] (by decide) (by decide)]
  simp only [bigSepL_cons_cons, bigSepL_singleton, Rd_payload]
  rfl
end Sched

/-! ### What is owed, and the levels -/

/-- The tallies of a list of raises to come, the first to be made at the head. -/
def tl (l : List (Dev nD × Ck)) : CellTallies nD τ sig Unit := l.foldr (fun x acc => acc + tallyAt (kcell x) () (unit x.2)) 0
theorem tl_cons (x : Dev nD × Ck) (l : List (Dev nD × Ck)) : tl (x :: l) = tl l + tallyAt (kcell x) () (unit x.2) := rfl
theorem tl_pos {l : List (Dev nD × Ck)} {g : GSem nD τ sig} {u : Unit} (h : 0 < tl l g u) : ∃ x ∈ l, g = kcell x := by
  induction l with
  | nil => exact absurd h (Nat.lt_irrefl 0)
  | cons y l ih =>
    rw [tl_cons, Pi.add_apply, Finsupp.add_apply, tallyAt_apply] at h
    by_cases hy : g = kcell y ∧ u = ()
    · exact ⟨y, List.mem_cons_self, hy.1⟩
    · rw [if_neg hy, Nat.add_zero] at h
      obtain ⟨x, hx, e⟩ := ih h
      exact ⟨x, List.mem_cons_of_mem _ hx, e⟩

/-- The raises device `c` owes at launch, in the order it makes them. -/
abbrev g4 (c : Dev nD) : List (Dev nD × Ck) := [(pr 4 c, some (5, 4))]
abbrev g3 (c : Dev nD) : List (Dev nD × Ck) := (pr 3 c, some (5, 3)) :: g4 c
abbrev g2 (c : Dev nD) : List (Dev nD × Ck) := (pr 2 c, some (5, 2)) :: g3 c
abbrev g1 (c : Dev nD) : List (Dev nD × Ck) := (pr 1 c, some (5, 1)) :: g2 c
abbrev g0 (c : Dev nD) : List (Dev nD × Ck) := (pr 0 c, some (5, 0)) :: g1 c
abbrev f4 (c : Dev nD) : List (Dev nD × Ck) := (pr 0 c, some (1, 4)) :: (pr 0 c, some (3, 4)) :: g0 c
abbrev f3 (c : Dev nD) : List (Dev nD × Ck) := (pr 1 c, some (1, 3)) :: (pr 1 c, some (3, 3)) :: f4 c
abbrev f2 (c : Dev nD) : List (Dev nD × Ck) := (pr 2 c, some (1, 2)) :: (pr 2 c, some (3, 2)) :: f3 c
abbrev f1 (c : Dev nD) : List (Dev nD × Ck) := (pr 3 c, some (1, 1)) :: (pr 3 c, some (3, 1)) :: f2 c
abbrev f0 (c : Dev nD) : List (Dev nD × Ck) := (pr 4 c, some (1, 0)) :: (pr 4 c, some (3, 0)) :: f1 c
abbrev b4 (c : Dev nD) : List (Dev nD × Ck) := (pr 4 c, none) :: f0 c
abbrev b3 (c : Dev nD) : List (Dev nD × Ck) := (pr 3 c, none) :: b4 c
abbrev b2 (c : Dev nD) : List (Dev nD × Ck) := (pr 2 c, none) :: b3 c
abbrev b1 (c : Dev nD) : List (Dev nD × Ck) := (pr 1 c, none) :: b2 c
abbrev b0 (c : Dev nD) : List (Dev nD × Ck) := (pr 0 c, none) :: b1 c

def L (g : GSem nD τ sig) : Finset Unit := if g.1.2 = .tc then {()} else ∅
def lvC : Ck → ℕ
  | none => 1
  | some (g, r) => if g = 5 then 7 + (r : ℕ) else if g = 1 ∨ g = 3 then 2 + (r : ℕ) else 0
def lv (g : GSem nD τ sig) (_ : Unit) : ℕ := match ckOf g.2 with | some k => lvC k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (x : Dev nD × Ck) : lv (kcell x) () = lvC x.2 := by unfold lv; rw [ckOf_semOf]

omit [FloatOps F] in
/-- A device may wait on a semaphore below everything it owes. -/
theorem mayWait_tl (c : Dev nD) (sm : SemLoc sig) (l : List (Dev nD × Ck)) (h : ∀ x ∈ l, lv ((c : Thread nD τ), sm) () < lvC x.2) :
    (levAts L lv : sProp 𝕄) ⊢ MayWait (c : Thread nD τ) sm () (tl l) :=
  MayOwe.of_cut (L := L) (lev := lv) (lv ((c : Thread nD τ), sm) ())
    (fun p hp => by rw [Finset.mem_singleton.mp hp, L_tc]; exact Finset.mem_singleton_self _)
    (fun g u hg => by obtain ⟨x, -, rfl⟩ := tl_pos hg; exact Finset.mem_singleton_self _)
    (fun p hp => by rw [Finset.mem_singleton.mp hp])
    (fun g u hg => by obtain ⟨x, hx, rfl⟩ := tl_pos hg; cases u; rw [lv_kcell]; exact h x hx)

/-! ### The ghost state -/

/-- For every semaphore of the exchange on every device, its invariant and that its one round is open. -/
def recs (K : Dev nD × Ck → ℕ) : sProp 𝕄 :=
  bigSep Finset.univ fun x : Dev nD × Ck => iprop(cellInv ER (Rd m) (K x) (kcell x) ∗ reached ER (kcell x) 0)

instance recs_persistent (K : Dev nD × Ck → ℕ) : BI.Persistent (recs (F := F) m K) := by unfold recs; infer_instance
theorem recs_elim (K : Dev nD × Ck → ℕ) (x : Dev nD × Ck) : recs m K ⊢ iprop(cellInv ER (Rd m) (K x) (kcell x) ∗ reached ER (kcell x) 0) :=
  bigSep_elim (Finset.mem_univ x)
theorem recs_inv (K : Dev nD × Ck → ℕ) (x : Dev nD × Ck) : recs m K ⊢ cellInv ER (Rd m) (K x) (kcell x) :=
  (recs_elim m K x).trans (by iintro ⟨H, -⟩; iexact H)
theorem recs_reached (K : Dev nD × Ck → ℕ) (x : Dev nD × Ck) : recs m K ⊢ (reached ER (kcell x) 0 : sProp 𝕄) :=
  (recs_elim m K x).trans (by iintro ⟨-, H⟩; iexact H)

/-- What device `c` holds for one pair of send and receive semaphores: its positions on both, the right to make the
    two raises its copy makes, the credit for its own receive. -/
def pairRes (c p : Dev nD) (a b : Fin 6) (r : Fin 5) : sProp 𝕄 :=
  iprop(atPos ER (kcell (c, some (a, r))) 0 ∅ 0 ∗ atPos ER (kcell (c, some (b, r))) 0 ∅ 0
    ∗ dutyTok ER (kcell (c, some (a, r))) 0 0 ∗ dutyTok ER (kcell (p, some (b, r))) 0 0 ∗ cred (tallyAt (kcell (c, some (b, r))) () (crd b r)))
/-- Both counters back at zero. -/
def pairZero (c : Dev nD) (a b : Fin 6) (r : Fin 5) : sProp 𝕄 :=
  iprop(semVal (kcell (c, some (a, r))) 0 ∗ semVal (kcell (c, some (b, r))) 0)
/-- One halving round's, one doubling round's. -/
def foldRes (c : Dev nD) (r : Fin 5) : sProp 𝕄 := iprop(pairRes c (pr (4 - r) c) 0 1 r ∗ pairRes c (pr (4 - r) c) 2 3 r)
def foldZero (c : Dev nD) (r : Fin 5) : sProp 𝕄 := iprop(pairZero c 0 1 r ∗ pairZero c 2 3 r)
/-- The barrier's: the position, the five raises, the credit for five. -/
def barRes (c : Dev nD) : sProp 𝕄 :=
  iprop(atPos ER (kcell (c, none)) 0 ∅ 0 ∗ dutyTok ER (kcell (pr 0 c, none)) 0 0 ∗ dutyTok ER (kcell (pr 1 c, none)) 0 1 ∗ dutyTok ER (kcell (pr 2 c, none)) 0 2
    ∗ dutyTok ER (kcell (pr 3 c, none)) 0 3 ∗ dutyTok ER (kcell (pr 4 c, none)) 0 4 ∗ cred (tallyAt (kcell (c, none)) () 5))

end Cert.KernelIdeal.Own
end
-- ==== Proof.KiSteps.lean ====
/-
  What each phase of the body does, as rules: from what a device holds before the phase to what it holds after it. The two
  exchanges are stated once each, for any round; the barrier's signals, the heads and the projection once each, for any bit
  or head.
-/
module

public import proofs.«01_k».proof.Proof.KiPlan

@[expose] public section

noncomputable section

namespace Cert.KernelIdeal.Own

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ### Views of rows -/

section Views
omit [FloatOps F]

theorem ao_rect (n l : ℕ) (h) : (Rect.unit (s := S512x8x128) ![l, 0, 0] (RO n).size h).set = rows S512x8x128 (0 : Fin 3) l n :=
  rect_rows (s := S512x8x128) (z := (0 : Fin 3)) (o := ![l, 0, 0]) (sz := (RO n).size) (fun
    | ⟨0, _⟩, h => absurd rfl h
    | ⟨1, _⟩, _ => ⟨rfl, rfl⟩
    | ⟨2, _⟩, _ => ⟨rfl, rfl⟩)
theorem ao_set (n l : ℕ) (h) : (aoAt n ![l, 0, 0] h).view.set = rows S512x8x128 (0 : Fin 3) l n :=
  (View.set_slice_whole cc0_scratch0 (Rect.unit (s := S512x8x128) ![l, 0, 0] (RO n).size h)).trans (ao_rect n l h)
theorem al_rect (n l : ℕ) (h) : (Rect.unit (s := S512x8) ![l, 0] (RL n).size h).set = rows S512x8 (0 : Fin 2) l n :=
  rect_rows (s := S512x8) (z := (0 : Fin 2)) (o := ![l, 0]) (sz := (RL n).size) (fun
    | ⟨0, _⟩, h => absurd rfl h
    | ⟨1, _⟩, _ => ⟨rfl, rfl⟩)
theorem al_set (n l : ℕ) (h) : (alAt n ![l, 0] h).view.set = rows S512x8 (0 : Fin 2) l n :=
  (View.set_slice_whole cc0_scratch1 (Rect.unit (s := S512x8) ![l, 0] (RL n).size h)).trans (al_rect n l h)
theorem so_rect (n l : ℕ) (h) : (Rect.unit (s := S496x8x128) ![l, 0, 0] (RO n).size h).set = rows S496x8x128 (0 : Fin 3) l n :=
  rect_rows (s := S496x8x128) (z := (0 : Fin 3)) (o := ![l, 0, 0]) (sz := (RO n).size) (fun
    | ⟨0, _⟩, h => absurd rfl h
    | ⟨1, _⟩, _ => ⟨rfl, rfl⟩
    | ⟨2, _⟩, _ => ⟨rfl, rfl⟩)
theorem so_set (n l : ℕ) (h) : (soAt n ![l, 0, 0] h).view.set = rows S496x8x128 (0 : Fin 3) l n :=
  (View.set_slice_whole cc0_scratch2 (Rect.unit (s := S496x8x128) ![l, 0, 0] (RO n).size h)).trans (so_rect n l h)
theorem sl_rect (n l : ℕ) (h) : (Rect.unit (s := S496x8) ![l, 0] (RL n).size h).set = rows S496x8 (0 : Fin 2) l n :=
  rect_rows (s := S496x8) (z := (0 : Fin 2)) (o := ![l, 0]) (sz := (RL n).size) (fun
    | ⟨0, _⟩, h => absurd rfl h
    | ⟨1, _⟩, _ => ⟨rfl, rfl⟩)
theorem sl_set (n l : ℕ) (h) : (slAt n ![l, 0] h).view.set = rows S496x8 (0 : Fin 2) l n :=
  (View.set_slice_whole cc0_scratch3 (Rect.unit (s := S496x8) ![l, 0] (RL n).size h)).trans (sl_rect n l h)
theorem out_rect (n l : ℕ) (h) : (Rect.unit (s := S512x1024) ![l, 0] (RW n).size h).set = rows S512x1024 (0 : Fin 2) l n :=
  rect_rows (s := S512x1024) (z := (0 : Fin 2)) (o := ![l, 0]) (sz := (RW n).size) (fun
    | ⟨0, _⟩, h => absurd rfl h
    | ⟨1, _⟩, _ => ⟨rfl, rfl⟩)
theorem out_set (n l : ℕ) (h) : (outAt n ![l, 0] h).view.set = rows S512x1024 (0 : Fin 2) l n :=
  (View.set_slice_whole cc0_stg5_0 (Rect.unit (s := S512x1024) ![l, 0] (RW n).size h)).trans (out_rect n l h)

/-- A store over a whole buffer, read element by element: `w` on the rectangle, the old contents off it. -/
theorem stored (b : Ref sig .tc) (r : Rect b.ty.shape) (f g : b.ty.Contents (Elt F)) (w : r.shape.Idx → Elt F b.ty.elt)
    (hin : ∀ j, w j = g (r.emb j)) (hout : ∀ i, i ∉ r.set → f i = g i) :
    ((Memref.whole b).access r : View sig .tc _ _ _).write (Elt F) f w Finset.univ = g := by
  funext i
  by_cases hi : i ∈ ((View.whole b).slice r).set
  · obtain ⟨j, -, rfl⟩ := Finset.mem_map.mp hi
    exact (View.write_emb_of_mem (v := (View.whole b).slice r) _ _ (Finset.mem_univ j)).trans (hin j)
  · exact (View.write_of_not_mem _ _ _ (by rw [View.setOn_univ]; exact hi)).trans (hout i (by rw [View.set_slice_whole] at hi; exact hi))

end Views

/-! ### One copy, one wait -/

/-- `owes`, whatever was waited on before. -/
def owesL (c : Dev nD) (l : List (Dev nD × Ck)) : sProp 𝕄 := iprop(∃ W, owes (c : Thread nD τ) (tl l) W)

/-- A copy to the peer `p` on the send semaphore `(a, r)` and the peer's receive semaphore `(b, r)`. -/
theorem wp_copy (K : Dev nD × Ck → ℕ) (c p : Dev nD) (a b : Fin 6) (r : Fin 5) (s₁ r₁ : DmaSem sig) (hs : s₁ = dsem a r) (hr : r₁ = dsem b r)
    {s : Shape} {src dst : Memref sig .tc .vmem s .f32} {hsc : dst.view.ref.isScScratch = false}
    {hsrc : src.view.WordExact} {hdst : dst.view.WordExact}
    {hsem : DmaTarget.Typed .vmem (.dma r₁) (.remote (Dev.tc p : Thread nD τ) dst (.dma s₁) hsc)}
    {α : Type} {Q : α → sProp 𝕄} {k : PUnit → Prog (TpuEff nD τ sig (Elt F) Λ₀ .tc) α}
    {fs : Buf (Elt F) (src.view.loc (c : Thread nD τ))} {fd : Buf (Elt F) (dst.view.loc (p : Thread nD τ))}
    (hN : dst.view.dmaCredit = crd b r) (hab : crd a r = crd b r)
    (hp₁ : (src.view.loc (c : Thread nD τ) ↦[src.view.set]{fullShare} fs) ⊢ pay m c (some (a, r)) 0)
    (hp₂ : (dst.view.loc (p : Thread nD τ) ↦[dst.view.set]{fullShare} (dst.view.write (Elt F) fd (src.view.read (Elt F) fs) Finset.univ)) ⊢ pay m p (some (b, r)) 0)
    (l : List (Dev nD × Ck)) :
    iprop(recs m K ∗ (src.view.loc (c : Thread nD τ) ↦[src.view.set]{fullShare} fs) ∗ (dst.view.loc (p : Thread nD τ) ↦[dst.view.set]{fullShare} fd)
        ∗ owesL c ((p, some (b, r)) :: l)
        ∗ dutyTok ER (kcell (c, some (a, r))) 0 0 ∗ dutyTok ER (kcell (p, some (b, r))) 0 0)
      ⊢ iprop(((cred (tallyAt (kcell (c, some (a, r))) () (crd a r)) ∗ owesL c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc p : Thread nD τ) dst (.dma s₁) hsc) (.dma r₁) hsrc hdst hsem) k) Q) := by
  subst hs; subst hr
  unfold owesL
  iintro ⟨#HR, Hs, Hd, ⟨%W, HO⟩, Ht₁, Ht₂⟩ Hk
  iapply (Rounds.wp_send_pointsTo 𝒱₀ ER (Rd m) (c : Thread nD τ) none (κ₁ := K (c, some (a, r))) (κ₂ := K (p, some (b, r)))
    (r₁ := 0) (r₂ := 0) (d₁ := 0) (d₂ := 0) (fd := fd) (sS := .dma (dsem a r)) (sem := .dma (dsem b r)) (c' := (p : Thread nD τ))
    (by rw [show ((c : Thread nD τ), SemLoc.dma (dsem a r)) = kcell (c, some (a, r)) from rfl, Rd_duties]; exact Finset.mem_singleton_self _)
    (by rw [show ((p : Thread nD τ), SemLoc.dma (dsem b r)) = kcell (p, some (b, r)) from rfl, Rd_duties]; exact Finset.mem_singleton_self _)
    () () (crd b r) hN ((Rd_amount m (c, some (a, r)) 0).trans hab) (Rd_amount m (p, some (b, r)) 0) (tl l) (tl_cons (p, some (b, r)) l) (W := W)
    (hp₁.trans (Entails.of_eq (Rd_payload m (c, some (a, r)) 0).symm)) (hp₂.trans (Entails.of_eq (Rd_payload m (p, some (b, r)) 0).symm)))
    $$ [Hs Hd HO Ht₁ Ht₂]
  · isplitr; · iapply (recs_inv m K (c, some (a, r))); iexact HR
    isplitr; · iapply (recs_inv m K (p, some (b, r))); iexact HR
    isplitl [Hs]; · iexact Hs
    isplitl [Hd]; · iexact Hd
    isplitl [HO]; · iexact HO
    isplitl [Ht₁]; · iexact Ht₁
    isplitr; · iapply (recs_reached m K (c, some (a, r))); iexact HR
    isplitl [Ht₂]; · iexact Ht₂
    iapply (recs_reached m K (p, some (b, r))); iexact HR
  iintro ⟨Hc, HO⟩
  iapply Hk
  isplitl [Hc]
  · rw [hab]; iexact Hc
  · iexists W; iexact HO

/-- The wait on a send or receive semaphore: what was raised comes with it, and the counter is at zero for good. -/
theorem wp_take (K : Dev nD × Ck → ℕ) (c : Dev nD) (g : Fin 6) (r : Fin 5) (s₁ : DmaSem sig) (hs : s₁ = dsem g r)
    {s s' : Shape} {src : Memref sig .tc .vmem s' .f32} {dst : Memref sig .tc .vmem s .f32} {hsrc : src.view.WordExact} {hdst : dst.view.WordExact}
    {α : Type} {Q : α → sProp 𝕄} {k : PUnit → Prog (TpuEff nD τ sig (Elt F) Λ₀ .tc) α}
    (hN : dst.view.dmaCredit = crd g r) (l : List (Dev nD × Ck)) (hl : ∀ x ∈ l, lvC (some (g, r)) < lvC x.2) :
    iprop(recs m K ∗ levAts L lv ∗ cred (tallyAt (kcell (c, some (g, r))) () (crd g r)) ∗ owesL c l ∗ atPos ER (kcell (c, some (g, r))) 0 ∅ 0)
      ⊢ iprop(((owesL c l ∗ semVal (kcell (c, some (g, r))) 0 ∗ pay m c (some (g, r)) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₁ src dst hsrc hdst) k) Q) := by
  subst hs
  unfold owesL
  iintro ⟨#HR, #Hlev, Hc, ⟨%W, HO⟩, Hat⟩ Hk
  iapply (Rounds.wp_wait_rest_token 𝒱₀ ER (Rd m) (c : Thread nD τ) none (κ := K (c, some (g, r))) (sm := semOf (some (g, r)))
      (wpE_waitDma2_eq 𝒱₀ (c : Thread nD τ) none Set.univ) (Set.mem_univ _) () (O := tl l) (W := W) (R := 0) (m := 0) (T := ∅)
      (by rw [Nat.zero_add, hN]; exact (Rd_expect m (c, some (g, r))).symm)) $$ [Hc HO Hat]
  · isplitr; · iapply (recs_inv m K (c, some (g, r))); iexact HR
    isplitl [Hc]; · rw [hN]; iexact Hc
    isplitl [HO]; · iexact HO
    isplitr; · iapply (mayWait_tl c (semOf (some (g, r))) l (fun x hx => (lv_kcell (c, some (g, r))).trans_lt (hl x hx))); iexact Hlev
    iexact Hat
  iintro ⟨HO, Hat, -, Hpay⟩
  imod (Rounds.cell_close ER (Rd m) (Set.mem_univ (K (c, some (g, r)))) (fun h => h) (R := 0 + 1) (Rd_later m (kcell (c, some (g, r))))) $$ [Hat] with Hz
  · isplitr; · iapply (recs_inv m K (c, some (g, r))); iexact HR
    iexact Hat
  ihave Hp := (Entails.of_eq (Rd_rest_some m c g r)) $$ Hpay
  iapply Hk
  isplitl [HO]
  · iexists _; iexact HO
  isplitl [Hz] <;> iassumption

end Cert.KernelIdeal.Own
end
-- ==== Proof.KiFold.lean ====
/-
  One round of the halving reduction, as a rule for any round.
-/
module

public import proofs.«01_k».proof.Proof.KiSteps

@[expose] public section

noncomputable section

namespace Cert.KernelIdeal.Own

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ### Rows through the views of the copies -/

section Pts
omit [FloatOps F]
variable (c : Dev nD) (n l : ℕ)

theorem aoP_eq (h) (f : Vec F S512x8x128 .f32) :
    aoP c l n f = ((aoAt n ![l, 0, 0] h).view.loc (c : Thread nD τ) ↦[(aoAt n ![l, 0, 0] h).view.set]{fullShare} f : sProp 𝕄) := by rw [ao_set]; rfl
theorem alP_eq (h) (f : Vec F S512x8 .f32) :
    alP c l n f = ((alAt n ![l, 0] h).view.loc (c : Thread nD τ) ↦[(alAt n ![l, 0] h).view.set]{fullShare} f : sProp 𝕄) := by rw [al_set]; rfl
theorem soP_eq (h) (f : Vec F S496x8x128 .f32) :
    soP c l n f = ((soAt n ![l, 0, 0] h).view.loc (c : Thread nD τ) ↦[(soAt n ![l, 0, 0] h).view.set]{fullShare} f : sProp 𝕄) := by rw [so_set]; rfl
theorem slP_eq (h) (f : Vec F S496x8 .f32) :
    slP c l n f = ((slAt n ![l, 0] h).view.loc (c : Thread nD τ) ↦[(slAt n ![l, 0] h).view.set]{fullShare} f : sProp 𝕄) := by rw [sl_set]; rfl
theorem outP_eq (h) (f : Vec F S512x1024 .f32) :
    outP c l n f = ((outAt n ![l, 0] h).view.loc (c : Thread nD τ) ↦[(outAt n ![l, 0] h).view.set]{fullShare} f : sProp 𝕄) := by rw [out_set]; rfl

/-- A whole accumulator, and what is left of it while some of its rows are lent. -/
def aoW (f : Vec F S512x8x128 .f32) : sProp 𝕄 := (c : Thread nD τ).loc cc0_scratch0 ↦{fullShare} f
def alW (f : Vec F S512x8 .f32) : sProp 𝕄 := (c : Thread nD τ).loc cc0_scratch1 ↦{fullShare} f
def aoR (f : Vec F S512x8x128 .f32) : sProp 𝕄 := (c : Thread nD τ).loc cc0_scratch0 ↦[Finset.univ \ rows S512x8x128 0 l n]{fullShare} f
def alR (f : Vec F S512x8 .f32) : sProp 𝕄 := (c : Thread nD τ).loc cc0_scratch1 ↦[Finset.univ \ rows S512x8 0 l n]{fullShare} f

theorem ao_lend (f : Vec F S512x8x128 .f32) : (aoW c f : sProp 𝕄) ⊣⊢ iprop(aoP c l n f ∗ aoR c n l f) := pointsTo_split_subset (Finset.subset_univ _)
theorem al_lend (f : Vec F S512x8 .f32) : (alW c f : sProp 𝕄) ⊣⊢ iprop(alP c l n f ∗ alR c n l f) := pointsTo_split_subset (Finset.subset_univ _)

end Pts

/-! ### What lands, and what the addition leaves -/

section Value
variable (c : Dev nD) (r : Fin 5)

theorem lo_lt (k : ℕ) (hk : k < 5) (c : Dev nD) : lo k c + sz k ≤ 512 := lo_le ⟨k, hk⟩ c
theorem pr_inv (k : ℕ) (hk : k < 5) (c : Dev nD) : pr k (pr k c) = c := pr_pr ⟨k, hk⟩ c

theorem landO_eq (hs ht) (j) : (aoAt (sz (4 - r)) ![lo (4 - r) (pr (4 - r) c), 0, 0] hs).view.read (Elt F) (accO m r c) j
    = (soAt (sz (4 - r)) ![toff (4 - r), 0, 0] ht).view.read (Elt F) (landO m r (pr (4 - r) c)) j := by
  show accO m r c ((Rect.unit (s := S512x8x128) ![lo (4 - r) (pr (4 - r) c), 0, 0] (RO (sz (4 - r))).size hs).emb j)
    = landO m r (pr (4 - r) c) ((Rect.unit (s := S496x8x128) ![toff (4 - r), 0, 0] (RO (sz (4 - r))).size ht).emb j)
  unfold landO
  rw [pr_inv _ (by omega)]
  congr 1
  have h0 : (j 0 : ℕ) < sz (4 - r) := (j 0).isLt
  have := lo_lt (4 - r) (by omega) (pr (4 - r) c)
  funext a; apply Fin.ext
  match a with
  | ⟨0, _⟩ => show lo (4 - r) (pr (4 - r) c) + 1 * (j 0 : ℕ) = (toff (4 - r) + 1 * (j 0 : ℕ) - toff (4 - r) + lo (4 - r) (pr (4 - r) c)) % 512; omega
  | ⟨1, _⟩ => rfl
  | ⟨2, _⟩ => rfl
theorem landL_eq (hs ht) (j) : (alAt (sz (4 - r)) ![lo (4 - r) (pr (4 - r) c), 0] hs).view.read (Elt F) (accL m r c) j
    = (slAt (sz (4 - r)) ![toff (4 - r), 0] ht).view.read (Elt F) (landL m r (pr (4 - r) c)) j := by
  show accL m r c ((Rect.unit (s := S512x8) ![lo (4 - r) (pr (4 - r) c), 0] (RL (sz (4 - r))).size hs).emb j)
    = landL m r (pr (4 - r) c) ((Rect.unit (s := S496x8) ![toff (4 - r), 0] (RL (sz (4 - r))).size ht).emb j)
  unfold landL
  rw [pr_inv _ (by omega)]
  congr 1
  have h0 : (j 0 : ℕ) < sz (4 - r) := (j 0).isLt
  have := lo_lt (4 - r) (by omega) (pr (4 - r) c)
  funext a; apply Fin.ext
  match a with
  | ⟨0, _⟩ => show lo (4 - r) (pr (4 - r) c) + 1 * (j 0 : ℕ) = (toff (4 - r) + 1 * (j 0 : ℕ) - toff (4 - r) + lo (4 - r) (pr (4 - r) c)) % 512; omega
  | ⟨1, _⟩ => rfl

theorem sumO_eq (hk ht) : (aoM.access (Rect.unit (s := S512x8x128) ![lo (4 - r) c, 0, 0] (RO (sz (4 - r))).size hk) : View sig .tc _ _ _).write (Elt F) (accO m r c)
      (sumO (sz (4 - r)) (aoM.view.readAt (Elt F) (Rect.unit (s := S512x8x128) ![lo (4 - r) c, 0, 0] (RO (sz (4 - r))).size hk).toLoadRect (accO m r c))
        (soM.view.readAt (Elt F) (Rect.unit (s := S496x8x128) ![toff (4 - r), 0, 0] (RO (sz (4 - r))).size ht).toLoadRect (landO m r c))) Finset.univ
    = accO m (r + 1) c := by
  refine stored cc0_scratch0 (Rect.unit (s := S512x8x128) ![lo (4 - r) c, 0, 0] (RO (sz (4 - r))).size hk) _ _ _ (fun j => ?_) (fun i hi => ?_)
  · have hm : (Rect.unit (s := S512x8x128) ![lo (4 - r) c, 0, 0] (RO (sz (4 - r))).size hk).emb j ∈ rows S512x8x128 0 (lo (4 - r) c) (sz (4 - r)) := by
      rw [← ao_rect _ _ hk]; exact (by rw [← Rect.map_emb_univ]; exact Finset.mem_map_of_mem _ (Finset.mem_univ j))
    have h0 : (j 0 : ℕ) < sz (4 - r) := (j 0).isLt
    have := lo_lt (4 - r) (by omega) c
    unfold sumO
    rw [shapeCast_self]
    refine Eq.trans ?_ (if_pos hm).symm
    show FloatOps.addf (accO m r c ((Rect.unit (s := S512x8x128) ![lo (4 - r) c, 0, 0] (RO (sz (4 - r))).size hk).emb j))
      (landO m r c ((Rect.unit (s := S496x8x128) ![toff (4 - r), 0, 0] (RO (sz (4 - r))).size ht).emb j)) = FloatOps.addf _ _
    congr 1
    unfold landO
    show accO m r (pr (4 - r) c) _ = accO m r (pr (4 - r) c) _
    congr 1
    funext a; apply Fin.ext
    match a with
    | ⟨0, _⟩ => show (toff (4 - r) + 1 * (j 0 : ℕ) - toff (4 - r) + lo (4 - r) c) % 512 = lo (4 - r) c + 1 * (j 0 : ℕ); omega
    | ⟨1, _⟩ => rfl
    | ⟨2, _⟩ => rfl
  · rw [ao_rect _ _ hk] at hi
    exact (if_neg hi).symm
theorem sumL_eq (hk ht) : (alM.access (Rect.unit (s := S512x8) ![lo (4 - r) c, 0] (RL (sz (4 - r))).size hk) : View sig .tc _ _ _).write (Elt F) (accL m r c)
      (sumL (sz (4 - r)) (alM.view.readAt (Elt F) (Rect.unit (s := S512x8) ![lo (4 - r) c, 0] (RL (sz (4 - r))).size hk).toLoadRect (accL m r c))
        (slM.view.readAt (Elt F) (Rect.unit (s := S496x8) ![toff (4 - r), 0] (RL (sz (4 - r))).size ht).toLoadRect (landL m r c))) Finset.univ
    = accL m (r + 1) c := by
  refine stored cc0_scratch1 (Rect.unit (s := S512x8) ![lo (4 - r) c, 0] (RL (sz (4 - r))).size hk) _ _ _ (fun j => ?_) (fun i hi => ?_)
  · have hm : (Rect.unit (s := S512x8) ![lo (4 - r) c, 0] (RL (sz (4 - r))).size hk).emb j ∈ rows S512x8 0 (lo (4 - r) c) (sz (4 - r)) := by
      rw [← al_rect _ _ hk]; exact (by rw [← Rect.map_emb_univ]; exact Finset.mem_map_of_mem _ (Finset.mem_univ j))
    have h0 : (j 0 : ℕ) < sz (4 - r) := (j 0).isLt
    have := lo_lt (4 - r) (by omega) c
    unfold sumL
    rw [shapeCast_self]
    refine Eq.trans ?_ (if_pos hm).symm
    show FloatOps.addf (accL m r c ((Rect.unit (s := S512x8) ![lo (4 - r) c, 0] (RL (sz (4 - r))).size hk).emb j))
      (landL m r c ((Rect.unit (s := S496x8) ![toff (4 - r), 0] (RL (sz (4 - r))).size ht).emb j)) = FloatOps.addf _ _
    congr 1
    unfold landL
    show accL m r (pr (4 - r) c) _ = accL m r (pr (4 - r) c) _
    congr 1
    funext a; apply Fin.ext
    match a with
    | ⟨0, _⟩ => show (toff (4 - r) + 1 * (j 0 : ℕ) - toff (4 - r) + lo (4 - r) c) % 512 = lo (4 - r) c + 1 * (j 0 : ℕ); omega
    | ⟨1, _⟩ => rfl
  · rw [al_rect _ _ hk] at hi
    exact (if_neg hi).symm

end Value

section Credit
variable (r : Fin 5)
theorem crd_0 : crd 0 r = crdO (sz (4 - r)) := rfl
theorem crd_1 : crd 1 r = crdO (sz (4 - r)) := rfl
theorem crd_2 : crd 2 r = crdL (sz (4 - r)) := rfl
theorem crd_3 : crd 3 r = crdL (sz (4 - r)) := rfl
theorem lvC_0 : lvC (some (0, r)) = 0 := rfl
theorem lvC_1 : lvC (some (1, r)) = 2 + (r : ℕ) := rfl
theorem lvC_2 : lvC (some (2, r)) = 0 := rfl
theorem lvC_3 : lvC (some (3, r)) = 2 + (r : ℕ) := rfl
theorem credit_ao (n o h) : (aoAt n o h).view.dmaCredit = crdO n := rfl
theorem credit_so (n o h) : (soAt n o h).view.dmaCredit = crdO n := rfl
theorem credit_al (n o h) : (alAt n o h).view.dmaCredit = crdL n := rfl
theorem credit_sl (n o h) : (slAt n o h).view.dmaCredit = crdL n := rfl
end Credit

section Lands
variable (c : Dev nD) (r : Fin 5)
theorem pay_0 : pay m c (some (0, r)) 0 = aoP c (lo (4 - r) (pr (4 - r) c)) (sz (4 - r)) (accO m r c) := rfl
theorem pay_1 : pay m c (some (1, r)) 0 = soP c (toff (4 - r)) (sz (4 - r)) (landO m r c) := rfl
theorem pay_2 : pay m c (some (2, r)) 0 = alP c (lo (4 - r) (pr (4 - r) c)) (sz (4 - r)) (accL m r c) := rfl
theorem pay_3 : pay m c (some (3, r)) 0 = slP c (toff (4 - r)) (sz (4 - r)) (landL m r c) := rfl
theorem back_o (hs) : ((aoAt (sz (4 - r)) ![lo (4 - r) (pr (4 - r) c), 0, 0] hs).view.loc (c : Thread nD τ)
      ↦[(aoAt (sz (4 - r)) ![lo (4 - r) (pr (4 - r) c), 0, 0] hs).view.set]{fullShare} (accO m r c) : sProp 𝕄) ⊢ pay m c (some (0, r)) 0 :=
  Entails.of_eq (aoP_eq c _ _ hs _).symm
theorem back_l (hs) : ((alAt (sz (4 - r)) ![lo (4 - r) (pr (4 - r) c), 0] hs).view.loc (c : Thread nD τ)
      ↦[(alAt (sz (4 - r)) ![lo (4 - r) (pr (4 - r) c), 0] hs).view.set]{fullShare} (accL m r c) : sProp 𝕄) ⊢ pay m c (some (2, r)) 0 :=
  Entails.of_eq (alP_eq c _ _ hs _).symm
theorem land_o (hs ht) (fd : Vec F S496x8x128 .f32) :
    ((soAt (sz (4 - r)) ![toff (4 - r), 0, 0] ht).view.loc (pr (4 - r) c : Thread nD τ) ↦[(soAt (sz (4 - r)) ![toff (4 - r), 0, 0] ht).view.set]{fullShare}
      ((soAt (sz (4 - r)) ![toff (4 - r), 0, 0] ht).view.write (Elt F) fd
        ((aoAt (sz (4 - r)) ![lo (4 - r) (pr (4 - r) c), 0, 0] hs).view.read (Elt F) (accO m r c)) Finset.univ) : sProp 𝕄)
      ⊢ pay m (pr (4 - r) c) (some (1, r)) 0 :=
  (Entails.of_eq (pointsTo_congr (landed_on _ _ (landO_eq m c r hs ht)))).trans (Entails.of_eq (soP_eq (pr (4 - r) c) _ _ ht _).symm)
theorem land_l (hs ht) (fd : Vec F S496x8 .f32) :
    ((slAt (sz (4 - r)) ![toff (4 - r), 0] ht).view.loc (pr (4 - r) c : Thread nD τ) ↦[(slAt (sz (4 - r)) ![toff (4 - r), 0] ht).view.set]{fullShare}
      ((slAt (sz (4 - r)) ![toff (4 - r), 0] ht).view.write (Elt F) fd
        ((alAt (sz (4 - r)) ![lo (4 - r) (pr (4 - r) c), 0] hs).view.read (Elt F) (accL m r c)) Finset.univ) : sProp 𝕄)
      ⊢ pay m (pr (4 - r) c) (some (3, r)) 0 :=
  (Entails.of_eq (pointsTo_congr (landed_on _ _ (landL_eq m c r hs ht)))).trans (Entails.of_eq (slP_eq (pr (4 - r) c) _ _ ht _).symm)
end Lands

/-! ### The round -/

set_option maxHeartbeats 400000 in
theorem wp_fold (K : Dev nD × Ck → ℕ) (c : Dev nD) (r : Fin 5) (n : ℕ) (p p' : Dev nD) (so ko oo : Fin 3 → ℕ) (sl kl tl' : Fin 2 → ℕ)
    (hso hko hto hsl hkl htl) (s₁ r₁ s₂ r₂ : DmaSem sig) (hn : 0 < (RO n).numel) (hn' : 0 < (RL n).numel)
    (en : n = sz (4 - r)) (ep : p = pr (4 - r) c) (ep' : p' = pr (4 - r) c)
    (eso : so = ![lo (4 - r) (pr (4 - r) c), 0, 0]) (eko : ko = ![lo (4 - r) c, 0, 0]) (eoo : oo = ![toff (4 - r), 0, 0])
    (esl : sl = ![lo (4 - r) (pr (4 - r) c), 0]) (ekl : kl = ![lo (4 - r) c, 0]) (etl : tl' = ![toff (4 - r), 0])
    (e₁ : s₁ = dsem 0 r) (e₂ : r₁ = dsem 1 r) (e₃ : s₂ = dsem 2 r) (e₄ : r₂ = dsem 3 r)
    (l : List (Dev nD × Ck)) (hl : ∀ x ∈ l, 2 + (r : ℕ) < lvC x.2) (Q : PUnit → sProp 𝕄) :
    iprop(recs m K ∗ levAts L lv ∗ owesL c ((pr (4 - r) c, some (1, r)) :: (pr (4 - r) c, some (3, r)) :: l) ∗ foldRes c r
        ∗ aoW c (accO m r c) ∗ alW c (accL m r c)
        ∗ (∃ f, soP (pr (4 - r) c) (toff (4 - r)) (sz (4 - r)) f) ∗ (∃ f, slP (pr (4 - r) c) (toff (4 - r)) (sz (4 - r)) f))
      ⊢ iprop(((owesL c l ∗ foldZero c r ∗ aoW c (accO m (r + 1) c) ∗ alW c (accL m (r + 1) c)
            ∗ soP c (toff (4 - r)) (sz (4 - r)) (landO m r c) ∗ slP c (toff (4 - r)) (sz (4 - r)) (landL m r c)) -∗ Q ⟨⟩)
          -∗ wp frame (wpE (defs₀ (F := F)) 𝒱₀ (c : Thread nD τ) none) Set.univ
            (foldRound n p p' so ko oo sl kl tl' hso hko hto hsl hkl htl s₁ r₁ s₂ r₂ hn hn') Q) := by
  subst en ep ep' eso eko eoo esl ekl etl e₁ e₂ e₃ e₄
  unfold foldRound foldRes foldZero pairRes pairZero
  simp only [Prog.lift, Prog.bind_op, Prog.bind_ret, Prog.pure_eq_ret]
  iintro ⟨#HR, #Hlev, HO, ⟨⟨Ha0, Ha1, Ht0, Ht1, Hc1⟩, Ha2, Ha3, Ht2, Ht3, Hc3⟩, Hao, Hal, ⟨%fo, Hso⟩, ⟨%fl, Hsl⟩⟩ Hk
  icases (ao_lend c (sz (4 - r)) (lo (4 - r) (pr (4 - r) c)) _).1 $$ Hao with ⟨Has, Har⟩
  icases (al_lend c (sz (4 - r)) (lo (4 - r) (pr (4 - r) c)) _).1 $$ Hal with ⟨Hbs, Hbr⟩
  -- the two copies
  iapply (wp_copy m K c (pr (4 - r) c) 0 1 r (dsem 0 r) (dsem 1 r) rfl rfl (src := aoAt _ _ hso) (dst := soAt _ _ hto) (fs := accO m r c) (fd := fo) ((credit_so _ _ _).trans (crd_1 r).symm) ((crd_0 r).trans (crd_1 r).symm)
    (back_o m c r hso) (land_o m c r hso hto fo) _) $$ [HO Has Hso Ht0 Ht1]
  · isplitr; · iexact HR
    isplitl [Has]; · iapply (Entails.of_eq (aoP_eq c _ _ hso _)); iexact Has
    isplitl [Hso]; · iapply (Entails.of_eq (soP_eq _ _ _ hto _)); iexact Hso
    isplitl [HO]; · iexact HO
    isplitl [Ht0] <;> iassumption
  iintro ⟨Hc0, HO⟩
  iapply (wp_copy m K c (pr (4 - r) c) 2 3 r (dsem 2 r) (dsem 3 r) rfl rfl (src := alAt _ _ hsl) (dst := slAt _ _ htl) (fs := accL m r c) (fd := fl) ((credit_sl _ _ _).trans (crd_3 r).symm) ((crd_2 r).trans (crd_3 r).symm)
    (back_l m c r hsl) (land_l m c r hsl htl fl) _) $$ [HO Hbs Hsl Ht2 Ht3]
  · isplitr; · iexact HR
    isplitl [Hbs]; · iapply (Entails.of_eq (alP_eq c _ _ hsl _)); iexact Hbs
    isplitl [Hsl]; · iapply (Entails.of_eq (slP_eq _ _ _ htl _)); iexact Hsl
    isplitl [HO]; · iexact HO
    isplitl [Ht2] <;> iassumption
  iintro ⟨Hc2, HO⟩
  -- the four waits
  iapply (wp_take m K c 0 r _ rfl ((credit_ao _ _ _).trans (crd_0 r).symm) l (fun x hx => by rw [lvC_0]; have := hl x hx; omega)) $$ [Hc0 HO Ha0]
  · isplitr; · iexact HR
    isplitr; · iexact Hlev
    isplitl [Hc0]; · iexact Hc0
    isplitl [HO] <;> iassumption
  iintro ⟨HO, Hz0, Has⟩
  iapply (wp_take m K c 1 r _ rfl ((credit_so _ _ _).trans (crd_1 r).symm) l (fun x hx => by rw [lvC_1]; have := hl x hx; omega)) $$ [Hc1 HO Ha1]
  · isplitr; · iexact HR
    isplitr; · iexact Hlev
    isplitl [Hc1]; · iexact Hc1
    isplitl [HO] <;> iassumption
  iintro ⟨HO, Hz1, Hso⟩
  iapply (wp_take m K c 2 r _ rfl ((credit_al _ _ _).trans (crd_2 r).symm) l (fun x hx => by rw [lvC_2]; have := hl x hx; omega)) $$ [Hc2 HO Ha2]
  · isplitr; · iexact HR
    isplitr; · iexact Hlev
    isplitl [Hc2]; · iexact Hc2
    isplitl [HO] <;> iassumption
  iintro ⟨HO, Hz2, Hbs⟩
  iapply (wp_take m K c 3 r _ rfl ((credit_sl _ _ _).trans (crd_3 r).symm) l (fun x hx => by rw [lvC_3]; have := hl x hx; omega)) $$ [Hc3 HO Ha3]
  · isplitr; · iexact HR
    isplitr; · iexact Hlev
    isplitl [Hc3]; · iexact Hc3
    isplitl [HO] <;> iassumption
  iintro ⟨HO, Hz3, Hsl⟩
  ihave Has := (Entails.of_eq (pay_0 m c r)) $$ Has
  ihave Hso := (Entails.of_eq (pay_1 m c r)) $$ Hso
  ihave Hbs := (Entails.of_eq (pay_2 m c r)) $$ Hbs
  ihave Hsl := (Entails.of_eq (pay_3 m c r)) $$ Hsl
  ihave Hao := (ao_lend c (sz (4 - r)) (lo (4 - r) (pr (4 - r) c)) (accO m r c)).2 $$ [Has Har]
  · isplitl [Has] <;> iassumption
  ihave Hal := (al_lend c (sz (4 - r)) (lo (4 - r) (pr (4 - r) c)) (accL m r c)).2 $$ [Hbs Hbr]
  · isplitl [Hbs] <;> iassumption
  -- the additions
  unfold aoW alW
  ihave Hso := (Entails.of_eq (soP_eq c _ _ hto _)) $$ Hso
  ihave Hsl := (Entails.of_eq (slP_eq c _ _ htl _)) $$ Hsl
  iapply (wp_load 𝒱₀ (c : Thread nD τ) none Set.univ (m := aoM) (Finset.subset_univ _)) $$ Hao; iintro Hao
  iapply (wp_load_rect 𝒱₀ (c : Thread nD τ) none Set.univ (m := soM) (Finset.Subset.refl _)) $$ Hso; iintro Hso
  iapply (wp_load 𝒱₀ (c : Thread nD τ) none Set.univ (m := aoM) (Finset.subset_univ _)) $$ Hao; iintro Hao
  iapply (wp_store 𝒱₀ (c : Thread nD τ) none Set.univ (m := aoM) (r := Rect.unit (s := S512x8x128) ![lo (4 - r) c, 0, 0] (RO (sz (4 - r))).size hko) (Mk := Finset.univ) (Finset.subset_univ _)) $$ Hao; iintro Hao
  iapply (wp_load 𝒱₀ (c : Thread nD τ) none Set.univ (m := alM) (Finset.subset_univ _)) $$ Hal; iintro Hal
  iapply (wp_load_rect 𝒱₀ (c : Thread nD τ) none Set.univ (m := slM) (Finset.Subset.refl _)) $$ Hsl; iintro Hsl
  iapply (wp_load 𝒱₀ (c : Thread nD τ) none Set.univ (m := alM) (Finset.subset_univ _)) $$ Hal; iintro Hal
  iapply (wp_store 𝒱₀ (c : Thread nD τ) none Set.univ (m := alM) (r := Rect.unit (s := S512x8) ![lo (4 - r) c, 0] (RL (sz (4 - r))).size hkl) (Mk := Finset.univ) (Finset.subset_univ _)) $$ Hal; iintro Hal
  rw [wp_ret]; imodintro
  iapply Hk
  isplitl [HO]; · iexact HO
  isplitl [Hz0 Hz1 Hz2 Hz3]
  · isplitl [Hz0 Hz1]
    · isplitl [Hz0] <;> iassumption
    · isplitl [Hz2] <;> iassumption
  isplitl [Hao]; · rw [← sumO_eq m c r hko hto]; iexact Hao
  isplitl [Hal]; · rw [← sumL_eq m c r hkl htl]; iexact Hal
  isplitl [Hso]
  · iapply (Entails.of_eq (soP_eq c _ _ hto _).symm); iexact Hso
  · iapply (Entails.of_eq (slP_eq c _ _ htl _).symm); iexact Hsl

end Cert.KernelIdeal.Own
end
-- ==== Proof.KiRest.lean ====
/-
  The other phases, as rules: a signal on a peer's barrier and the wait on one's own, an attention head, a head's term of the
  projection, the store of the own rows, one round of the doubling gather.
-/
module

public import proofs.«01_k».proof.Proof.KiFold

@[expose] public section

noncomputable section

namespace Cert.KernelIdeal.Own

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ### The barrier -/

/-- The signal to the peer across bit `k`, with everything of this device's that the peer will write. -/
theorem wp_hello (K : Dev nD × Ck → ℕ) (c : Dev nD) (k : Fin 5) (d : Dev nD) (hd : d = pr k c) (l : List (Dev nD × Ck)) (Q : PUnit → sProp 𝕄) :
    iprop(recs m K ∗ owesL c ((pr k c, none) :: l) ∗ dutyTok ER (kcell (pr k c, none)) 0 k
        ∗ (∃ f, soP c (toff k) (sz k) f) ∗ (∃ f, slP c (toff k) (sz k) f) ∗ (∃ f, outP c (lo k (pr k c)) (sz k) f))
      ⊢ iprop((owesL c l -∗ Q ⟨⟩) -∗ wp frame (wpE (defs₀ (F := F)) 𝒱₀ (c : Thread nD τ) none) Set.univ (hello d) Q) := by
  subst hd
  unfold owesL hello semSignalWord
  iintro ⟨#HR, ⟨%W, HO⟩, Ht, Hso, Hsl, Hout⟩ Hk
  iapply (Rounds.wp_signal 𝒱₀ ER (Rd m) (c : Thread nD τ) none (dst := (pr k c : Thread nD τ)) (sem := barS) (κ := K (pr k c, none)) (r := 0)
      (d := k) (by rw [show ((pr k c : Thread nD τ), SemLoc.reg barS) = kcell (pr k c, none) from rfl, Rd_duties]; exact Finset.mem_univ _)
      ((Rd_amount m (pr k c, none) k).trans (show unit none = 1 from rfl)) () (tl l) (tl_cons (pr k c, none) l) (W := W)) $$ [HO Ht Hso Hsl Hout]
  · isplitr; · iapply (recs_inv m K (pr k c, none)); iexact HR
    isplitl [HO]; · iexact HO
    isplitl [Ht]; · iexact Ht
    isplitl [Hso Hsl Hout]
    · iapply (show barPay (pr k c) k ⊢ (Rd m).payload ((pr k c : Thread nD τ), SemLoc.reg barS) 0 k from Entails.of_eq (Rd_payload m (pr k c, none) k).symm)
      unfold barPay
      rw [pr_pr]
      isplitl [Hso]; · iexact Hso
      isplitl [Hsl] <;> iassumption
    iapply (recs_reached m K (pr k c, none)); iexact HR
  iintro HO
  rw [wp_ret]; imodintro
  iapply Hk
  iexists W; iexact HO

/-- The wait for the five peers. -/
theorem wp_greet (K : Dev nD × Ck → ℕ) (c : Dev nD) (l : List (Dev nD × Ck)) (hl : ∀ x ∈ l, 1 < lvC x.2) (Q : PUnit → sProp 𝕄) :
    iprop(recs m K ∗ levAts L lv ∗ cred (tallyAt (kcell (c, none)) () 5) ∗ owesL c l ∗ atPos ER (kcell (c, none)) 0 ∅ 0)
      ⊢ iprop(((owesL c l ∗ semVal (kcell (c, none)) 0 ∗ barPay c 0 ∗ barPay c 1 ∗ barPay c 2 ∗ barPay c 3 ∗ barPay c 4) -∗ Q ⟨⟩)
          -∗ wp frame (wpE (defs₀ (F := F)) 𝒱₀ (c : Thread nD τ) none) Set.univ (semWaitWord barS 5#32) Q) := by
  unfold owesL semWaitWord
  iintro ⟨#HR, #Hlev, Hc, ⟨%W, HO⟩, Hat⟩ Hk
  iapply (Rounds.wp_wait_rest_token 𝒱₀ ER (Rd m) (c : Thread nD τ) none (κ := K (c, none)) (sm := semOf none) (k' := 5)
      (wpE_semWait_eq 𝒱₀ (c : Thread nD τ) none Set.univ) (Set.mem_univ _) () (O := tl l) (W := W) (R := 0) (m := 0) (T := ∅)
      (Rd_expect m (c, none)).symm) $$ [Hc HO Hat]
  · isplitr; · iapply (recs_inv m K (c, none)); iexact HR
    isplitl [Hc]; · iexact Hc
    isplitl [HO]; · iexact HO
    isplitr; · iapply (mayWait_tl c (semOf none) l (fun x hx => (lv_kcell (c, none)).trans_lt (hl x hx))); iexact Hlev
    iexact Hat
  iintro ⟨HO, Hat, -, Hpay⟩
  imod (Rounds.cell_close ER (Rd m) (Set.mem_univ (K (c, none))) (fun h => h) (R := 0 + 1) (Rd_later m (kcell (c, none)))) $$ [Hat] with Hz
  · isplitr; · iapply (recs_inv m K (c, none)); iexact HR
    iexact Hat
  ihave Hp := (Entails.of_eq (Rd_rest_none m c)) $$ Hpay
  rw [wp_ret]; imodintro
  iapply Hk
  isplitl [HO]
  · iexists _; iexact HO
  isplitl [Hz] <;> iassumption

/-! ### The heads -/

section Heads
variable (c : Dev nD)

/-- Buffers that are only read. -/
def kP : sProp 𝕄 := (c : Thread nD τ).loc cc0_stg3_0 ↦{fullShare} kS m c
def vP : sProp 𝕄 := (c : Thread nD τ).loc cc0_stg4_0 ↦{fullShare} vS m c
def woP : sProp 𝕄 := (c : Thread nD τ).loc cc0_stg2_0 ↦{fullShare} woS m c

/-- An accumulator whose columns before head `h` are done. -/
def alUpto (h : ℕ) : sProp 𝕄 := iprop(∃ f : Vec F S512x8 .f32, ⌜∀ i, (i 1 : ℕ) < h → f i = initL m c i⌝ ∗ alW c f)
def aoUpto (h : ℕ) : sProp 𝕄 := iprop(∃ f : Vec F S512x8x128 .f32, ⌜∀ i, (i 1 : ℕ) < h → f i = initO m c i⌝ ∗ aoW c f)

theorem group_k (h : Fin 8) (hkv) :
    kM.view.readAt (Elt F) (Rect.unit (s := S1x2048x2x128) ![0, 0, (h : ℕ) / 4, 0] S1x2048x1x128.size hkv).toLoadRect (kS m c) = group (kS m c) ⟨h / 4, by omega⟩ := by
  funext j
  show kS m c ((Rect.unit (s := S1x2048x2x128) ![0, 0, (h : ℕ) / 4, 0] S1x2048x1x128.size hkv).emb j) = kS m c _
  congr 1; funext a; apply Fin.ext
  match a with
  | ⟨0, _⟩ => show 0 + 1 * (j 0 : ℕ) = (j 0 : ℕ); omega
  | ⟨1, _⟩ => show 0 + 1 * (j 1 : ℕ) = (j 1 : ℕ); omega
  | ⟨2, _⟩ => show (h : ℕ) / 4 + 1 * (j 2 : ℕ) = (h : ℕ) / 4; have : (j 2 : ℕ) < 1 := (j 2).isLt; omega
  | ⟨3, _⟩ => show 0 + 1 * (j 3 : ℕ) = (j 3 : ℕ); omega
theorem group_v (h : Fin 8) (hkv) :
    vM.view.readAt (Elt F) (Rect.unit (s := S1x2048x2x128) ![0, 0, (h : ℕ) / 4, 0] S1x2048x1x128.size hkv).toLoadRect (vS m c) = group (vS m c) ⟨h / 4, by omega⟩ := by
  funext j
  show vS m c ((Rect.unit (s := S1x2048x2x128) ![0, 0, (h : ℕ) / 4, 0] S1x2048x1x128.size hkv).emb j) = vS m c _
  congr 1; funext a; apply Fin.ext
  match a with
  | ⟨0, _⟩ => show 0 + 1 * (j 0 : ℕ) = (j 0 : ℕ); omega
  | ⟨1, _⟩ => show 0 + 1 * (j 1 : ℕ) = (j 1 : ℕ); omega
  | ⟨2, _⟩ => show (h : ℕ) / 4 + 1 * (j 2 : ℕ) = (h : ℕ) / 4; have : (j 2 : ℕ) < 1 := (j 2).isLt; omega
  | ⟨3, _⟩ => show 0 + 1 * (j 3 : ℕ) = (j 3 : ℕ); omega

/-- A column of the denominators stored: the columns up to and including it are done. -/
theorem colL_stored (h : Fin 8) (hl) (f : Vec F S512x8 .f32) (hf : ∀ i, (i 1 : ℕ) < h → f i = initL m c i) :
    ∀ i, (i 1 : ℕ) < h + 1 → (alM.access (Rect.unit (s := S512x8) ![0, (h : ℕ)] S512x1.size hl) : View sig .tc _ _ _).write (Elt F) f (colL m c h) Finset.univ i = initL m c i := by
  have hst := stored (F := F) cc0_scratch1 (Rect.unit (s := S512x8) ![0, (h : ℕ)] S512x1.size hl) f
    (fun i : S512x8.Idx => if (i 1 : ℕ) = h then initL m c i else f i) (colL m c h) (fun j => ?_) (fun i hi => ?_)
  · intro i hi
    refine (congrFun hst i).trans ?_
    show (if (i 1 : ℕ) = h then initL m c i else f i) = _
    split
    · rfl
    · exact hf i (by omega)
  · have e1 : ((Rect.unit (s := S512x8) ![0, (h : ℕ)] S512x1.size hl).emb j) = (ix2 (j 0) h : S512x8.Idx) := by
      funext a; apply Fin.ext
      match a with
      | ⟨0, _⟩ => show 0 + 1 * (j 0 : ℕ) = (j 0 : ℕ); omega
      | ⟨1, _⟩ => show (h : ℕ) + 1 * (j 1 : ℕ) = (h : ℕ); have : (j 1 : ℕ) < 1 := (j 1).isLt; omega
    rw [e1]
    refine Eq.trans ?_ (if_pos (show ((ix2 (j 0) h : S512x8.Idx) 1 : ℕ) = h from rfl)).symm
    show colL m c h j = colL m c h (ix2 (j 0) 0)
    congr 1; funext a; apply Fin.ext
    match a with
    | ⟨0, _⟩ => rfl
    | ⟨1, _⟩ => show (j 1 : ℕ) = 0; have : (j 1 : ℕ) < 1 := (j 1).isLt; omega
  · refine (if_neg fun e => hi ?_).symm
    rw [Rect.mem_set_unit]
    intro a
    match a with
    | ⟨0, _⟩ => exact ⟨Nat.zero_le _, (i 0).isLt.trans_le (Nat.le_of_eq rfl)⟩
    | ⟨1, _⟩ => exact ⟨e.ge, by show (i 1 : ℕ) < (h : ℕ) + 1; omega⟩
theorem colO_stored (h : Fin 8) (hl) (f : Vec F S512x8x128 .f32) (hf : ∀ i, (i 1 : ℕ) < h → f i = initO m c i) :
    ∀ i, (i 1 : ℕ) < h + 1 → (aoM.access (Rect.unit (s := S512x8x128) ![0, (h : ℕ), 0] S512x1x128.size hl) : View sig .tc _ _ _).write (Elt F) f (colO m c h) Finset.univ i = initO m c i := by
  have hst := stored (F := F) cc0_scratch0 (Rect.unit (s := S512x8x128) ![0, (h : ℕ), 0] S512x1x128.size hl) f
    (fun i : S512x8x128.Idx => if (i 1 : ℕ) = h then initO m c i else f i) (colO m c h) (fun j => ?_) (fun i hi => ?_)
  · intro i hi
    refine (congrFun hst i).trans ?_
    show (if (i 1 : ℕ) = h then initO m c i else f i) = _
    split
    · rfl
    · exact hf i (by omega)
  · have e1 : ((Rect.unit (s := S512x8x128) ![0, (h : ℕ), 0] S512x1x128.size hl).emb j) = (ix3 (j 0) h (j 2) : S512x8x128.Idx) := by
      funext a; apply Fin.ext
      match a with
      | ⟨0, _⟩ => show 0 + 1 * (j 0 : ℕ) = (j 0 : ℕ); omega
      | ⟨1, _⟩ => show (h : ℕ) + 1 * (j 1 : ℕ) = (h : ℕ); have : (j 1 : ℕ) < 1 := (j 1).isLt; omega
      | ⟨2, _⟩ => show 0 + 1 * (j 2 : ℕ) = (j 2 : ℕ); omega
    rw [e1]
    refine Eq.trans ?_ (if_pos (show ((ix3 (j 0) h (j 2) : S512x8x128.Idx) 1 : ℕ) = h from rfl)).symm
    show colO m c h j = colO m c h (ix3 (j 0) 0 (j 2))
    congr 1; funext a; apply Fin.ext
    match a with
    | ⟨0, _⟩ => rfl
    | ⟨1, _⟩ => show (j 1 : ℕ) = 0; have : (j 1 : ℕ) < 1 := (j 1).isLt; omega
    | ⟨2, _⟩ => rfl
  · refine (if_neg fun e => hi ?_).symm
    rw [Rect.mem_set_unit]
    intro a
    match a with
    | ⟨0, _⟩ => exact ⟨Nat.zero_le _, (i 0).isLt.trans_le (Nat.le_of_eq rfl)⟩
    | ⟨1, _⟩ => exact ⟨e.ge, by show (i 1 : ℕ) < (h : ℕ) + 1; omega⟩
    | ⟨2, _⟩ => exact ⟨Nat.zero_le _, (i 2).isLt.trans_le (Nat.le_of_eq rfl)⟩

/-- One attention head. -/
theorem wp_head (h : Fin 8) (q : FVec F S512x1024 .f32) (qo hN g : ℕ) (hq hkv hl ho) (eq₁ : q = qAll (xS m c) (wqS m c)) (eq₂ : qo = 128 * (h : ℕ))
    (eq₃ : hN = h) (eq₄ : g = (h : ℕ) / 4) (Q : PUnit → sProp 𝕄) :
    iprop(kP m c ∗ vP m c ∗ aoUpto m c h ∗ alUpto m c h)
      ⊢ iprop(((kP m c ∗ vP m c ∗ aoUpto m c (h + 1) ∗ alUpto m c (h + 1)) -∗ Q ⟨⟩)
          -∗ wp frame (wpE (defs₀ (F := F)) 𝒱₀ (c : Thread nD τ) none) Set.univ (headStep q qo hq hN g hkv hl ho) Q) := by
  subst eq₁ eq₂ eq₃ eq₄
  unfold headStep kP vP aoUpto alUpto aoW alW
  simp only [Prog.lift, Prog.bind_op, Prog.bind_ret, Prog.pure_eq_ret]
  iintro ⟨HK, HV, ⟨%fo, %hfo, Hao⟩, ⟨%fl, %hfl, Hal⟩⟩ Hk
  iapply (wp_load 𝒱₀ (c : Thread nD τ) none Set.univ (m := kM) (Finset.subset_univ _)) $$ HK; iintro HK
  iapply (wp_load 𝒱₀ (c : Thread nD τ) none Set.univ (m := alM) (Finset.subset_univ _)) $$ Hal; iintro Hal
  iapply (wp_store 𝒱₀ (c : Thread nD τ) none Set.univ (m := alM) (r := Rect.unit (s := S512x8) ![0, (h : ℕ)] S512x1.size hl) (Mk := Finset.univ) (Finset.subset_univ _)) $$ Hal; iintro Hal
  iapply (wp_load 𝒱₀ (c : Thread nD τ) none Set.univ (m := vM) (Finset.subset_univ _)) $$ HV; iintro HV
  iapply (wp_load 𝒱₀ (c : Thread nD τ) none Set.univ (m := aoM) (Finset.subset_univ _)) $$ Hao; iintro Hao
  iapply (wp_store 𝒱₀ (c : Thread nD τ) none Set.univ (m := aoM) (r := Rect.unit (s := S512x8x128) ![0, (h : ℕ), 0] S512x1x128.size ho) (Mk := Finset.univ) (Finset.subset_univ _)) $$ Hao; iintro Hao
  rw [wp_ret]; imodintro
  iapply Hk
  isplitl [HK]; · iexact HK
  isplitl [HV]; · iexact HV
  isplitl [Hao]
  · iexists _
    isplitr
    rotate_left
    · iexact Hao
    · ipureintro
      rw [group_k, group_v]
      exact colO_stored m c h ho fo hfo
  · iexists _
    isplitr
    rotate_left
    · iexact Hal
    · ipureintro
      rw [group_k]
      exact colL_stored m c h hl fl hfl

theorem ao_start : iprop(∃ f, (c : Thread nD τ).loc cc0_scratch0 ↦{fullShare} f) ⊢ aoUpto m c 0 := by
  unfold aoUpto aoW
  iintro ⟨%f, H⟩
  iexists f
  isplitr
  · ipureintro; intro i hi; exact absurd hi (Nat.not_lt_zero _)
  · iexact H
theorem al_start : iprop(∃ f, (c : Thread nD τ).loc cc0_scratch1 ↦{fullShare} f) ⊢ alUpto m c 0 := by
  unfold alUpto alW
  iintro ⟨%f, H⟩
  iexists f
  isplitr
  · ipureintro; intro i hi; exact absurd hi (Nat.not_lt_zero _)
  · iexact H
theorem ao_done : aoUpto m c 8 ⊢ aoW c (accO m 0 c) := by
  unfold aoUpto
  iintro ⟨%f, %hf, H⟩
  rw [show accO m 0 c = f from (funext fun i => hf i (i 1).isLt).symm]
  iexact H
theorem al_done : alUpto m c 8 ⊢ alW c (accL m 0 c) := by
  unfold alUpto
  iintro ⟨%f, %hf, H⟩
  rw [show accL m 0 c = f from (funext fun i => hf i (i 1).isLt).symm]
  iexact H

end Heads

/-! ### The projection -/

section Proj
variable (c : Dev nD)

/-- One head's term. -/
theorem wp_proj (h : Fin 8) (wo : ℕ) (o : Fin 3 → ℕ) (l : Fin 2 → ℕ) (ho hl hw) (e₁ : wo = 128 * (h : ℕ)) (e₂ : o = ![lo 0 c, (h : ℕ), 0]) (e₃ : l = ![lo 0 c, (h : ℕ)])
    (Q : FVec F S16x1024 .f32 → sProp 𝕄) :
    iprop(aoW c (accO m 5 c) ∗ alW c (accL m 5 c) ∗ woP m c)
      ⊢ iprop(((aoW c (accO m 5 c) ∗ alW c (accL m 5 c) ∗ woP m c) -∗ Q (termH m c h))
          -∗ wp frame (wpE (defs₀ (F := F)) 𝒱₀ (c : Thread nD τ) none) Set.univ (projStep wo o l ho hl hw) Q) := by
  subst e₁ e₂ e₃
  have hc : lo 0 c + sz 0 ≤ 512 := lo_le 0 c
  have hz : sz 0 = 16 := rfl
  have ro : aoM.view.readAt (Elt F) (Rect.unit (s := S512x8x128) ![lo 0 c, (h : ℕ), 0] S16x1x128.size ho).toLoadRect (accO m 5 c)
      = fun j : S16x1x128.Idx => accO m 5 c (ix3 ⟨(lo 0 c + (j 0 : ℕ)) % 512, Nat.mod_lt _ (by decide)⟩ h (j 2)) := by
    funext j
    show accO m 5 c ((Rect.unit (s := S512x8x128) ![lo 0 c, (h : ℕ), 0] S16x1x128.size ho).emb j) = _
    congr 1; funext a; apply Fin.ext
    have h0 : (j 0 : ℕ) < 16 := (j 0).isLt
    match a with
    | ⟨0, _⟩ => show lo 0 c + 1 * (j 0 : ℕ) = (lo 0 c + (j 0 : ℕ)) % 512; exact (by omega : lo 0 c + 1 * (j 0 : ℕ) = (lo 0 c + (j 0 : ℕ)) % 512)
    | ⟨1, _⟩ => show (h : ℕ) + 1 * (j 1 : ℕ) = (h : ℕ); have : (j 1 : ℕ) < 1 := (j 1).isLt; omega
    | ⟨2, _⟩ => show 0 + 1 * (j 2 : ℕ) = (j 2 : ℕ); omega
  have rl : alM.view.readAt (Elt F) (Rect.unit (s := S512x8) ![lo 0 c, (h : ℕ)] S16x1.size hl).toLoadRect (accL m 5 c)
      = fun j : S16x1.Idx => accL m 5 c (ix2 ⟨(lo 0 c + (j 0 : ℕ)) % 512, Nat.mod_lt _ (by decide)⟩ h) := by
    funext j
    show accL m 5 c ((Rect.unit (s := S512x8) ![lo 0 c, (h : ℕ)] S16x1.size hl).emb j) = _
    congr 1; funext a; apply Fin.ext
    have h0 : (j 0 : ℕ) < 16 := (j 0).isLt
    match a with
    | ⟨0, _⟩ => show lo 0 c + 1 * (j 0 : ℕ) = (lo 0 c + (j 0 : ℕ)) % 512; exact (by omega : lo 0 c + 1 * (j 0 : ℕ) = (lo 0 c + (j 0 : ℕ)) % 512)
    | ⟨1, _⟩ => show (h : ℕ) + 1 * (j 1 : ℕ) = (h : ℕ); have : (j 1 : ℕ) < 1 := (j 1).isLt; omega
  have rw' : woM.view.readAt (Elt F) (Rect.unit (s := S1024x1024) ![128 * (h : ℕ), 0] S128x1024.size hw).toLoadRect (woS m c)
      = fun j : S128x1024.Idx => woS m c (ix2 ⟨(128 * (h : ℕ) + (j 0 : ℕ)) % 1024, Nat.mod_lt _ (by decide)⟩ (j 1)) := by
    funext j
    show woS m c ((Rect.unit (s := S1024x1024) ![128 * (h : ℕ), 0] S128x1024.size hw).emb j) = _
    congr 1; funext a; apply Fin.ext
    have h0 : (j 0 : ℕ) < 128 := (j 0).isLt
    match a with
    | ⟨0, _⟩ => show 128 * (h : ℕ) + 1 * (j 0 : ℕ) = (128 * (h : ℕ) + (j 0 : ℕ)) % 1024; omega
    | ⟨1, _⟩ => show 0 + 1 * (j 1 : ℕ) = (j 1 : ℕ); omega
  unfold projStep aoW alW woP
  simp only [Prog.lift, Prog.bind_op, Prog.bind_ret, Prog.pure_eq_ret]
  iintro ⟨Hao, Hal, Hw⟩ Hk
  iapply (wp_load 𝒱₀ (c : Thread nD τ) none Set.univ (m := aoM) (Finset.subset_univ _)) $$ Hao; iintro Hao
  iapply (wp_load 𝒱₀ (c : Thread nD τ) none Set.univ (m := alM) (Finset.subset_univ _)) $$ Hal; iintro Hal
  iapply (wp_load 𝒱₀ (c : Thread nD τ) none Set.univ (m := woM) (Finset.subset_univ _)) $$ Hw; iintro Hw
  rw [wp_ret]; imodintro
  rw [ro, rl, rw']
  rw [show headTerm _ _ _ = termH m c h from rfl]
  iapply Hk
  isplitl [Hao]; · iexact Hao
  isplitl [Hal] <;> iassumption

/-- The own sixteen rows of the result. -/
theorem wp_put (o : Fin 2 → ℕ) (ho) (y : FVec F S16x1024 .f32) (e₁ : o = ![lo 0 c, 0]) (e₂ : y = outBlk m c) (Q : PUnit → sProp 𝕄) :
    iprop(∃ f, outP c (lo 0 c) (sz 0) f)
      ⊢ iprop((outP c (lo 0 c) (sz 0) (outAll m) -∗ Q ⟨⟩)
          -∗ wp frame (wpE (defs₀ (F := F)) 𝒱₀ (c : Thread nD τ) none) Set.univ (putRows o ho y) Q) := by
  subst e₁ e₂
  have hw : ∀ f : Vec F S512x1024 .f32, ∀ i ∈ (outAt (sz 0) ![lo 0 c, 0] ho).view.set,
      (outM.access (Rect.unit (s := S512x1024) ![lo 0 c, 0] S16x1024.size ho) : View sig .tc _ _ _).write (Elt F) f (outBlk m c) Finset.univ i = outAll m i := by
    intro f i hi
    obtain ⟨j, -, rfl⟩ := Finset.mem_map.mp hi
    refine (View.write_emb_of_mem (v := (View.whole cc0_stg5_0).slice (Rect.unit (s := S512x1024) ![lo 0 c, 0] S16x1024.size ho)) _ _ (Finset.mem_univ j)).trans ?_
    show outBlk m c j = outAll m ((Rect.unit (s := S512x1024) ![lo 0 c, 0] S16x1024.size ho).emb j)
    have h0 : (j 0 : ℕ) < 16 := (j 0).isLt
    have hc : lo 0 c = (c : ℕ) * 16 := by unfold lo; simp
    unfold outAll
    have e1 : (lo 0 c + 1 * (j 0 : ℕ)) / 16 = (c : ℕ) := by omega
    have e2 : (lo 0 c + 1 * (j 0 : ℕ)) % 16 = (j 0 : ℕ) := by omega
    congr 1
    · exact Fin.ext e1.symm
    · funext a; apply Fin.ext
      match a with
      | ⟨0, _⟩ => exact e2.symm
      | ⟨1, _⟩ => show (j 1 : ℕ) = 0 + 1 * (j 1 : ℕ); omega
  unfold putRows
  simp only [Prog.lift, Prog.bind_op, Prog.bind_ret, Prog.pure_eq_ret]
  iintro ⟨%f, Hout⟩ Hk
  ihave Hout := (show outP c (lo 0 c) (sz 0) f ⊢ ((outM.access (Rect.unit (s := S512x1024) ![lo 0 c, 0] S16x1024.size ho)).loc (c : Thread nD τ)
      ↦[(outM.access (Rect.unit (s := S512x1024) ![lo 0 c, 0] S16x1024.size ho)).set]{fullShare} f : sProp 𝕄)
      from Entails.of_eq (outP_eq c (sz 0) (lo 0 c) ho _)) $$ Hout
  iapply (wp_load_rect 𝒱₀ (c : Thread nD τ) none Set.univ (m := outM) (Finset.Subset.refl _)) $$ Hout; iintro Hout
  iapply (wp_store 𝒱₀ (c : Thread nD τ) none Set.univ (m := outM) (r := Rect.unit (s := S512x1024) ![lo 0 c, 0] S16x1024.size ho) (Mk := Finset.univ)
      (show _ ⊆ (outM.access (Rect.unit (s := S512x1024) ![lo 0 c, 0] S16x1024.size ho)).set from Finset.Subset.refl _)) $$ Hout; iintro Hout
  rw [wp_ret]; imodintro
  iapply Hk
  iapply (Entails.of_eq (outP_eq c (sz 0) (lo 0 c) ho _).symm)
  iapply (Entails.of_eq (pointsTo_congr (hw f)))
  iexact Hout

end Proj

/-! ### The gather -/

section Spread
variable (c : Dev nD) (r : Fin 5)

theorem crd_4 : crd 4 r = crdW (sz r) := rfl
theorem crd_5 : crd 5 r = crdW (sz r) := rfl
theorem lvC_4 : lvC (some (4, r)) = 0 := rfl
theorem lvC_5 : lvC (some (5, r)) = 7 + (r : ℕ) := rfl
theorem credit_out (n o h) : (outAt n o h).view.dmaCredit = crdW n := rfl
theorem pay_4 : pay m c (some (4, r)) 0 = outP c (lo r c) (sz r) (outAll m) := rfl
theorem pay_5 : pay m c (some (5, r)) 0 = outP c (lo r (pr r c)) (sz r) (outAll m) := rfl

theorem back_w (ho) : ((outAt (sz r) ![lo r c, 0] ho).view.loc (c : Thread nD τ)
      ↦[(outAt (sz r) ![lo r c, 0] ho).view.set]{fullShare} (outAll m) : sProp 𝕄) ⊢ pay m c (some (4, r)) 0 :=
  Entails.of_eq (outP_eq c _ _ ho _).symm
theorem land_w (ho) (fd : Vec F S512x1024 .f32) :
    ((outAt (sz r) ![lo r c, 0] ho).view.loc (pr r c : Thread nD τ) ↦[(outAt (sz r) ![lo r c, 0] ho).view.set]{fullShare}
      ((outAt (sz r) ![lo r c, 0] ho).view.write (Elt F) fd ((outAt (sz r) ![lo r c, 0] ho).view.read (Elt F) (outAll m)) Finset.univ) : sProp 𝕄)
      ⊢ pay m (pr r c) (some (5, r)) 0 := by
  rw [pay_5, pr_pr]
  exact (Entails.of_eq (pointsTo_congr (landed_on (outAt (sz r) ![lo r c, 0] ho).view (outAt (sz r) ![lo r c, 0] ho).view (fun _ => rfl)))).trans (Entails.of_eq (outP_eq (pr r c) _ _ ho _).symm)

omit [FloatOps F] in
/-- The own rows and the peer's are the rows of the next step. -/
theorem out_join (f : Vec F S512x1024 .f32) :
    iprop(outP c (lo r c) (sz r) f ∗ outP c (lo r (pr r c)) (sz r) f) ⊣⊢ (outP c (lo (r + 1) c) (sz (r + 1)) f : sProp 𝕄) := by
  have hsz : sz (r + 1) = sz r + sz r := by show 16 * 2 ^ ((r : ℕ) + 1) = 16 * 2 ^ (r : ℕ) + 16 * 2 ^ (r : ℕ); rw [pow_succ]; omega
  unfold outP
  rcases lo_split r c with ⟨h1, h2⟩ | ⟨h1, h2⟩
  · rw [h1, h2, hsz, rows_add]
    exact BiEntails.symm (pointsTo_union (rows_disj _ _ (.inl (Nat.le_refl _))))
  · rw [h1, h2, hsz, rows_add]
    exact BiEntails.trans ⟨BI.sep_comm, BI.sep_comm⟩ (BiEntails.symm (pointsTo_union (rows_disj _ _ (.inl (Nat.le_refl _)))))

theorem wp_spread (K : Dev nD × Ck → ℕ) (n : ℕ) (p : Dev nD) (o : Fin 2 → ℕ) (ho) (s₁ r₁ : DmaSem sig)
    (en : n = sz r) (ep : p = pr r c) (eo : o = ![lo r c, 0]) (e₁ : s₁ = dsem 4 r) (e₂ : r₁ = dsem 5 r)
    (l : List (Dev nD × Ck)) (hl : ∀ x ∈ l, 7 + (r : ℕ) < lvC x.2) (Q : PUnit → sProp 𝕄) :
    iprop(recs m K ∗ levAts L lv ∗ owesL c ((pr r c, some (5, r)) :: l) ∗ pairRes c (pr r c) 4 5 r
        ∗ outP c (lo r c) (sz r) (outAll m) ∗ (∃ f, outP (pr r c) (lo r c) (sz r) f))
      ⊢ iprop(((owesL c l ∗ pairZero c 4 5 r ∗ outP c (lo (r + 1) c) (sz (r + 1)) (outAll m)) -∗ Q ⟨⟩)
          -∗ wp frame (wpE (defs₀ (F := F)) 𝒱₀ (c : Thread nD τ) none) Set.univ (spreadRound n p o ho s₁ r₁) Q) := by
  subst en ep eo e₁ e₂
  unfold spreadRound pairRes pairZero
  simp only [Prog.lift, Prog.bind_op, Prog.bind_ret, Prog.pure_eq_ret]
  iintro ⟨#HR, #Hlev, HO, ⟨Ha0, Ha1, Ht0, Ht1, Hc1⟩, Hs, ⟨%fd, Hd⟩⟩ Hk
  iapply (wp_copy m K c (pr r c) 4 5 r (dsem 4 r) (dsem 5 r) rfl rfl (src := outAt _ _ ho) (dst := outAt _ _ ho) (fs := outAll m) (fd := fd)
    ((credit_out _ _ _).trans (crd_5 r).symm) ((crd_4 r).trans (crd_5 r).symm) (back_w m c r ho) (land_w m c r ho fd) _) $$ [HO Hs Hd Ht0 Ht1]
  · isplitr; · iexact HR
    isplitl [Hs]; · iapply (Entails.of_eq (outP_eq c _ _ ho _)); iexact Hs
    isplitl [Hd]; · iapply (Entails.of_eq (outP_eq _ _ _ ho _)); iexact Hd
    isplitl [HO]; · iexact HO
    isplitl [Ht0] <;> iassumption
  iintro ⟨Hc0, HO⟩
  iapply (wp_take m K c 4 r _ rfl ((credit_out _ _ _).trans (crd_4 r).symm) l (fun x hx => by rw [lvC_4]; have := hl x hx; omega)) $$ [Hc0 HO Ha0]
  · isplitr; · iexact HR
    isplitr; · iexact Hlev
    isplitl [Hc0]; · iexact Hc0
    isplitl [HO] <;> iassumption
  iintro ⟨HO, Hz0, Hs⟩
  iapply (wp_take m K c 5 r _ rfl ((credit_out _ _ _).trans (crd_5 r).symm) l (fun x hx => by rw [lvC_5]; have := hl x hx; omega)) $$ [Hc1 HO Ha1]
  · isplitr; · iexact HR
    isplitr; · iexact Hlev
    isplitl [Hc1]; · iexact Hc1
    isplitl [HO] <;> iassumption
  iintro ⟨HO, Hz1, Hd⟩
  rw [wp_ret]; imodintro
  iapply Hk
  isplitl [HO]; · iexact HO
  isplitl [Hz0 Hz1]
  · isplitl [Hz0] <;> iassumption
  iapply (out_join c r (outAll m)).1
  isplitl [Hs]
  · iapply (Entails.of_eq (pay_4 m c r)); iexact Hs
  · iapply (Entails.of_eq (pay_5 m c r)); iexact Hd

end Spread

end Cert.KernelIdeal.Own
end
-- ==== Proof.KiBody.lean ====
/-
  The body on one device, phase after phase: the staging areas and the result buffer cut into what each peer will write, the
  phases in sequence, the areas joined again.
-/
module

public import proofs.«01_k».proof.Proof.KiRest

@[expose] public section

noncomputable section

namespace Cert.KernelIdeal.Own

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ### Cutting and joining row sets -/

section Cut
variable (c : Dev nD)

omit [FloatOps F] in
/-- Two adjoining row sets, whatever each holds, are one. -/
theorem rows_join {b : Ref sig .tc} (z : Fin b.ty.shape.rank) (l n n' : ℕ) :
    iprop((∃ f, (c : Thread nD τ).loc b ↦[rows b.ty.shape z l n]{fullShare} f) ∗ (∃ f, (c : Thread nD τ).loc b ↦[rows b.ty.shape z (l + n) n']{fullShare} f))
      ⊢ (∃ f, (c : Thread nD τ).loc b ↦[rows b.ty.shape z l (n + n')]{fullShare} f : sProp 𝕄) := by
  rw [rows_add]
  iintro ⟨⟨%f, H⟩, ⟨%g, H'⟩⟩
  iexists _
  iapply (pointsTo_join (rows_disj _ _ (.inl (Nat.le_refl _))))
  isplitl [H]
  · iexact H
  · iexact H'

omit [FloatOps F] in
/-- A row set is two adjoining ones. -/
theorem rows_cut {b : Ref sig .tc} (z : Fin b.ty.shape.rank) (l n n' : ℕ) (f : Buf (Elt F) ((c : Thread nD τ).loc b)) :
    ((c : Thread nD τ).loc b ↦[rows b.ty.shape z l (n + n')]{fullShare} f : sProp 𝕄)
      ⊢ iprop(((c : Thread nD τ).loc b ↦[rows b.ty.shape z l n]{fullShare} f) ∗ ((c : Thread nD τ).loc b ↦[rows b.ty.shape z (l + n) n']{fullShare} f)) := by
  rw [rows_add]
  exact (pointsTo_union (rows_disj _ _ (.inl (Nat.le_refl _)))).1

/-- The staging areas, by round: the last bit's rows first. -/
def soAny (l n : ℕ) : sProp 𝕄 := iprop(∃ f, soP c l n f)
def slAny (l n : ℕ) : sProp 𝕄 := iprop(∃ f, slP c l n f)
def outAny (p : Dev nD) (l n : ℕ) : sProp 𝕄 := iprop(∃ f, outP p l n f)

omit [FloatOps F] in
theorem so_cut (l n n' : ℕ) : (soAny c l (n + n') : sProp 𝕄) ⊣⊢ iprop(soAny c l n ∗ soAny c (l + n) n') := by
  unfold soAny soP
  refine ⟨?_, rows_join c (b := cc0_scratch2) 0 l n n'⟩
  iintro ⟨%f, H⟩
  ihave H := (rows_cut c (b := cc0_scratch2) 0 l n n' f) $$ H
  icases H with ⟨H, H'⟩
  isplitl [H]
  · iexists f; iexact H
  · iexists f; iexact H'
omit [FloatOps F] in
theorem sl_cut (l n n' : ℕ) : (slAny c l (n + n') : sProp 𝕄) ⊣⊢ iprop(slAny c l n ∗ slAny c (l + n) n') := by
  unfold slAny slP
  refine ⟨?_, rows_join c (b := cc0_scratch3) 0 l n n'⟩
  iintro ⟨%f, H⟩
  ihave H := (rows_cut c (b := cc0_scratch3) 0 l n n' f) $$ H
  icases H with ⟨H, H'⟩
  isplitl [H]
  · iexists f; iexact H
  · iexists f; iexact H'

omit [FloatOps F] in
theorem so_five : iprop(∃ f, (c : Thread nD τ).loc cc0_scratch2 ↦{fullShare} f)
    ⊣⊢ (iprop((((soAny c (toff 4) (sz 4) ∗ soAny c (toff 3) (sz 3)) ∗ soAny c (toff 2) (sz 2)) ∗ soAny c (toff 1) (sz 1)) ∗ soAny c (toff 0) (sz 0)) : sProp 𝕄) := by
  have e : (iprop(∃ f, (c : Thread nD τ).loc cc0_scratch2 ↦{fullShare} f) : sProp 𝕄) = soAny c 0 (256 + 128 + 64 + 32 + 16) := by
    unfold soAny soP
    rw [show rows S496x8x128 0 0 (256 + 128 + 64 + 32 + 16) = Finset.univ from rows_all S496x8x128 0]
    rfl
  rw [e]
  exact (so_cut c 0 _ 16).trans (sep_congr ((so_cut c 0 _ 32).trans (sep_congr ((so_cut c 0 _ 64).trans (sep_congr (so_cut c 0 256 128) .rfl)) .rfl)) .rfl)
omit [FloatOps F] in
theorem sl_five : iprop(∃ f, (c : Thread nD τ).loc cc0_scratch3 ↦{fullShare} f)
    ⊣⊢ (iprop((((slAny c (toff 4) (sz 4) ∗ slAny c (toff 3) (sz 3)) ∗ slAny c (toff 2) (sz 2)) ∗ slAny c (toff 1) (sz 1)) ∗ slAny c (toff 0) (sz 0)) : sProp 𝕄) := by
  have e : (iprop(∃ f, (c : Thread nD τ).loc cc0_scratch3 ↦{fullShare} f) : sProp 𝕄) = slAny c 0 (256 + 128 + 64 + 32 + 16) := by
    unfold slAny slP
    rw [show rows S496x8 0 0 (256 + 128 + 64 + 32 + 16) = Finset.univ from rows_all S496x8 0]
    rfl
  rw [e]
  exact (sl_cut c 0 _ 16).trans (sep_congr ((sl_cut c 0 _ 32).trans (sep_congr ((sl_cut c 0 _ 64).trans (sep_congr (sl_cut c 0 256 128) .rfl)) .rfl)) .rfl)

omit [FloatOps F] in
theorem out_whole (f : Vec F S512x1024 .f32) : ((c : Thread nD τ).loc cc0_stg5_0 ↦{fullShare} f : sProp 𝕄) = outP c (lo 5 c) (sz 5) f := by
  unfold outP
  rw [lo_five, show rows S512x1024 0 0 (sz 5) = Finset.univ from rows_all S512x1024 0]
omit [FloatOps F] in
/-- The result buffer: the own rows, and for each peer the rows it will write. -/
theorem out_five : iprop(∃ f, (c : Thread nD τ).loc cc0_stg5_0 ↦{fullShare} f)
    ⊢ (iprop(outAny c (lo 0 c) (sz 0) ∗ outAny c (lo 0 (pr 0 c)) (sz 0) ∗ outAny c (lo 1 (pr 1 c)) (sz 1) ∗ outAny c (lo 2 (pr 2 c)) (sz 2)
        ∗ outAny c (lo 3 (pr 3 c)) (sz 3) ∗ outAny c (lo 4 (pr 4 c)) (sz 4)) : sProp 𝕄) := by
  iintro ⟨%f, H⟩
  ihave H := (Entails.of_eq (out_whole c f)) $$ H
  ihave H := (show outP c (lo 5 c) (sz 5) f ⊢ iprop(outP c (lo 4 c) (sz 4) f ∗ outP c (lo 4 (pr 4 c)) (sz 4) f) from (out_join c 4 f).2) $$ H; icases H with ⟨H, H4⟩
  ihave H := (show outP c (lo 4 c) (sz 4) f ⊢ iprop(outP c (lo 3 c) (sz 3) f ∗ outP c (lo 3 (pr 3 c)) (sz 3) f) from (out_join c 3 f).2) $$ H; icases H with ⟨H, H3⟩
  ihave H := (show outP c (lo 3 c) (sz 3) f ⊢ iprop(outP c (lo 2 c) (sz 2) f ∗ outP c (lo 2 (pr 2 c)) (sz 2) f) from (out_join c 2 f).2) $$ H; icases H with ⟨H, H2⟩
  ihave H := (show outP c (lo 2 c) (sz 2) f ⊢ iprop(outP c (lo 1 c) (sz 1) f ∗ outP c (lo 1 (pr 1 c)) (sz 1) f) from (out_join c 1 f).2) $$ H; icases H with ⟨H, H1⟩
  ihave H := (show outP c (lo 1 c) (sz 1) f ⊢ iprop(outP c (lo 0 c) (sz 0) f ∗ outP c (lo 0 (pr 0 c)) (sz 0) f) from (out_join c 0 f).2) $$ H; icases H with ⟨H, H0⟩
  unfold outAny
  isplitl [H]; · iexists f; iexact H
  isplitl [H0]; · iexists f; iexact H0
  isplitl [H1]; · iexists f; iexact H1
  isplitl [H2]; · iexists f; iexact H2
  isplitl [H3]; · iexists f; iexact H3
  iexists f; iexact H4

end Cut

/-! ### The body -/

omit [FloatOps F] in
/-- Everything in a list of raises is above a level, read off the list of their levels. -/
theorem below (l : List (Dev nD × Ck)) (ys : List ℕ) (e : l.map (fun x => lvC x.2) = ys) (k : ℕ) (h : ∀ y ∈ ys, k < y) : ∀ x ∈ l, k < lvC x.2 :=
  fun x hx => h _ (e ▸ List.mem_map_of_mem hx)

section Body
variable (c : Dev nD)

def xP : sProp 𝕄 := (c : Thread nD τ).loc cc0_stg0_0 ↦{fullShare} xS m c
def wqP : sProp 𝕄 := (c : Thread nD τ).loc cc0_stg1_0 ↦{fullShare} wqS m c

/-- The exchange's ghost state on one device, before and after. -/
def exch : sProp 𝕄 :=
  iprop(barRes c ∗ foldRes c 0 ∗ foldRes c 1 ∗ foldRes c 2 ∗ foldRes c 3 ∗ foldRes c 4
    ∗ pairRes c (pr 0 c) 4 5 0 ∗ pairRes c (pr 1 c) 4 5 1 ∗ pairRes c (pr 2 c) 4 5 2 ∗ pairRes c (pr 3 c) 4 5 3 ∗ pairRes c (pr 4 c) 4 5 4)
def closed : sProp 𝕄 :=
  iprop(semVal (kcell (c, none)) 0 ∗ foldZero c 0 ∗ foldZero c 1 ∗ foldZero c 2 ∗ foldZero c 3 ∗ foldZero c 4
    ∗ pairZero c 4 5 0 ∗ pairZero c 4 5 1 ∗ pairZero c 4 5 2 ∗ pairZero c 4 5 3 ∗ pairZero c 4 5 4)
/-- The four scratch buffers, whatever they hold. -/
def scr : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f))

theorem read_x : xM.view.readAt (Elt F) (Rect.unit (s := S1x512x1024) ![0, 0, 0] S1x512x1024.size inb_S1x512x1024_S1x512x1024_0_0_0).toLoadRect (xS m c) = xS m c :=
  Memref.readAt_unit_zero (Elt F) cc0_stg0_0 (funext fun a => by fin_cases a <;> rfl) _ _
theorem read_wq : wqM.view.readAt (Elt F) (Rect.unit (s := S1024x1024) ![0, 0] S1024x1024.size inb_S1024x1024_S1024x1024_0_0).toLoadRect (wqS m c) = wqS m c :=
  Memref.readAt_unit_zero (Elt F) cc0_stg1_0 (funext fun a => by fin_cases a <;> rfl) _ _

set_option maxHeartbeats 4000000 in
set_option maxRecDepth 8000 in
/-- The body, one rule per phase. -/
theorem wp_phases (K : Dev nD × Ck → ℕ) (Q : PUnit → sProp 𝕄) :
    iprop(recs m K ∗ levAts L lv ∗ owesL c (b0 c) ∗ exch c ∗ scr c ∗ xP m c ∗ wqP m c ∗ woP m c ∗ kP m c ∗ vP m c
        ∗ (∃ f, (c : Thread nD τ).loc cc0_stg5_0 ↦{fullShare} f))
      ⊢ iprop(((owesL c [] ∗ closed c ∗ scr c ∗ xP m c ∗ wqP m c ∗ woP m c ∗ kP m c ∗ vP m c
            ∗ ((c : Thread nD τ).loc cc0_stg5_0 ↦{fullShare} outAll m)) -∗ Q ⟨⟩)
          -∗ wp frame (wpE (defs₀ (F := F)) 𝒱₀ (c : Thread nD τ) none) Set.univ phases Q) := by
  unfold exch barRes scr phases
  simp only [Prog.lift, Prog.bind_op, Prog.bind_ret, Prog.pure_eq_ret, wp_deviceId, wp_bind]
  iintro ⟨#HR, #Hlev, HO, ⟨⟨Hba, Hbt0, Hbt1, Hbt2, Hbt3, Hbt4, Hbc⟩, Hf0, Hf1, Hf2, Hf3, Hf4, Hg0, Hg1, Hg2, Hg3, Hg4⟩, ⟨Hao, Hal, Hso, Hsl⟩,
    Hx, Hwq, Hwo, HK, HV, Hout⟩ Hk
  ihave Hso := (so_five c).1 $$ Hso
  icases Hso with ⟨⟨⟨⟨Hs4, Hs3⟩, Hs2⟩, Hs1⟩, Hs0⟩
  ihave Hsl := (sl_five c).1 $$ Hsl
  icases Hsl with ⟨⟨⟨⟨Ht4, Ht3⟩, Ht2⟩, Ht1⟩, Ht0⟩
  ihave Hout := (out_five c) $$ Hout
  icases Hout with ⟨Hout, Hu0, Hu1, Hu2, Hu3, Hu4⟩
  unfold soAny slAny outAny
  iapply (wp_hello m K c 0 _ (dev1_eq c) (b1 c)) $$ [HO Hbt0 Hs0 Ht0 Hu0]
  · isplitr; · iexact HR
    isplitl [HO]; · iexact HO
    isplitl [Hbt0]; · iexact Hbt0
    isplitl [Hs0]; · iexact Hs0
    isplitl [Ht0]; · iexact Ht0
    iexact Hu0
  iintro HO
  iapply (wp_hello m K c 1 _ (dev2_eq c) (b2 c)) $$ [HO Hbt1 Hs1 Ht1 Hu1]
  · isplitr; · iexact HR
    isplitl [HO]; · iexact HO
    isplitl [Hbt1]; · iexact Hbt1
    isplitl [Hs1]; · iexact Hs1
    isplitl [Ht1]; · iexact Ht1
    iexact Hu1
  iintro HO
  iapply (wp_hello m K c 2 _ (dev3_eq c) (b3 c)) $$ [HO Hbt2 Hs2 Ht2 Hu2]
  · isplitr; · iexact HR
    isplitl [HO]; · iexact HO
    isplitl [Hbt2]; · iexact Hbt2
    isplitl [Hs2]; · iexact Hs2
    isplitl [Ht2]; · iexact Ht2
    iexact Hu2
  iintro HO
  iapply (wp_hello m K c 3 _ (dev4_eq c) (b4 c)) $$ [HO Hbt3 Hs3 Ht3 Hu3]
  · isplitr; · iexact HR
    isplitl [HO]; · iexact HO
    isplitl [Hbt3]; · iexact Hbt3
    isplitl [Hs3]; · iexact Hs3
    isplitl [Ht3]; · iexact Ht3
    iexact Hu3
  iintro HO
  iapply (wp_hello m K c 4 _ (dev5_eq c) (f0 c)) $$ [HO Hbt4 Hs4 Ht4 Hu4]
  · isplitr; · iexact HR
    isplitl [HO]; · iexact HO
    isplitl [Hbt4]; · iexact Hbt4
    isplitl [Hs4]; · iexact Hs4
    isplitl [Ht4]; · iexact Ht4
    iexact Hu4
  iintro HO
  iapply (wp_greet m K c (f0 c) (below _ [2, 2, 3, 3, 4, 4, 5, 5, 6, 6, 7, 8, 9, 10, 11] rfl 1 (by decide))) $$ [HO Hba Hbc]
  · isplitr; · iexact HR
    isplitr; · iexact Hlev
    isplitl [Hbc]; · iexact Hbc
    isplitl [HO]; · iexact HO
    iexact Hba
  unfold barPay
  iintro ⟨HO, Hz, ⟨Hs0, Ht0, Hu0⟩, ⟨Hs1, Ht1, Hu1⟩, ⟨Hs2, Ht2, Hu2⟩, ⟨Hs3, Ht3, Hu3⟩, Hs4, Ht4, Hu4⟩
  unfold xP wqP
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hwq; iintro Hwq
  rw [read_x, read_wq]
  simp only [wp_bind]
  ihave Hao := (ao_start m c) $$ Hao
  ihave Hal := (al_start m c) $$ Hal
  iapply (wp_head m c 0 (qAll (xS m c) (wqS m c)) 0 0 0 slices_S512x1024_o0_0_S512x128 inb_S1x2048x2x128_S1x2048x1x128_0_0_0_0 inb_S512x8_S512x1_0_0
      inb_S512x8x128_S512x1x128_0_0_0 rfl rfl rfl rfl) $$ [HK HV Hao Hal]
  · isplitl [HK]; · iexact HK
    isplitl [HV]; · iexact HV
    isplitl [Hao]; · iexact Hao
    iexact Hal
  iintro ⟨HK, HV, Hao, Hal⟩
  iapply (wp_head m c 1 (qAll (xS m c) (wqS m c)) 128 1 0 slices_S512x1024_o0_128_S512x128 inb_S1x2048x2x128_S1x2048x1x128_0_0_0_0 inb_S512x8_S512x1_0_1
      inb_S512x8x128_S512x1x128_0_1_0 rfl rfl rfl rfl) $$ [HK HV Hao Hal]
  · isplitl [HK]; · iexact HK
    isplitl [HV]; · iexact HV
    isplitl [Hao]; · iexact Hao
    iexact Hal
  iintro ⟨HK, HV, Hao, Hal⟩
  iapply (wp_head m c 2 (qAll (xS m c) (wqS m c)) 256 2 0 slices_S512x1024_o0_256_S512x128 inb_S1x2048x2x128_S1x2048x1x128_0_0_0_0 inb_S512x8_S512x1_0_2
      inb_S512x8x128_S512x1x128_0_2_0 rfl rfl rfl rfl) $$ [HK HV Hao Hal]
  · isplitl [HK]; · iexact HK
    isplitl [HV]; · iexact HV
    isplitl [Hao]; · iexact Hao
    iexact Hal
  iintro ⟨HK, HV, Hao, Hal⟩
  iapply (wp_head m c 3 (qAll (xS m c) (wqS m c)) 384 3 0 slices_S512x1024_o0_384_S512x128 inb_S1x2048x2x128_S1x2048x1x128_0_0_0_0 inb_S512x8_S512x1_0_3
      inb_S512x8x128_S512x1x128_0_3_0 rfl rfl rfl rfl) $$ [HK HV Hao Hal]
  · isplitl [HK]; · iexact HK
    isplitl [HV]; · iexact HV
    isplitl [Hao]; · iexact Hao
    iexact Hal
  iintro ⟨HK, HV, Hao, Hal⟩
  iapply (wp_head m c 4 (qAll (xS m c) (wqS m c)) 512 4 1 slices_S512x1024_o0_512_S512x128 inb_S1x2048x2x128_S1x2048x1x128_0_0_1_0 inb_S512x8_S512x1_0_4
      inb_S512x8x128_S512x1x128_0_4_0 rfl rfl rfl rfl) $$ [HK HV Hao Hal]
  · isplitl [HK]; · iexact HK
    isplitl [HV]; · iexact HV
    isplitl [Hao]; · iexact Hao
    iexact Hal
  iintro ⟨HK, HV, Hao, Hal⟩
  iapply (wp_head m c 5 (qAll (xS m c) (wqS m c)) 640 5 1 slices_S512x1024_o0_640_S512x128 inb_S1x2048x2x128_S1x2048x1x128_0_0_1_0 inb_S512x8_S512x1_0_5
      inb_S512x8x128_S512x1x128_0_5_0 rfl rfl rfl rfl) $$ [HK HV Hao Hal]
  · isplitl [HK]; · iexact HK
    isplitl [HV]; · iexact HV
    isplitl [Hao]; · iexact Hao
    iexact Hal
  iintro ⟨HK, HV, Hao, Hal⟩
  iapply (wp_head m c 6 (qAll (xS m c) (wqS m c)) 768 6 1 slices_S512x1024_o0_768_S512x128 inb_S1x2048x2x128_S1x2048x1x128_0_0_1_0 inb_S512x8_S512x1_0_6
      inb_S512x8x128_S512x1x128_0_6_0 rfl rfl rfl rfl) $$ [HK HV Hao Hal]
  · isplitl [HK]; · iexact HK
    isplitl [HV]; · iexact HV
    isplitl [Hao]; · iexact Hao
    iexact Hal
  iintro ⟨HK, HV, Hao, Hal⟩
  iapply (wp_head m c 7 (qAll (xS m c) (wqS m c)) 896 7 1 slices_S512x1024_o0_896_S512x128 inb_S1x2048x2x128_S1x2048x1x128_0_0_1_0 inb_S512x8_S512x1_0_7
      inb_S512x8x128_S512x1x128_0_7_0 rfl rfl rfl rfl) $$ [HK HV Hao Hal]
  · isplitl [HK]; · iexact HK
    isplitl [HV]; · iexact HV
    isplitl [Hao]; · iexact Hao
    iexact Hal
  iintro ⟨HK, HV, Hao, Hal⟩
  ihave Hao := (show aoUpto m c (((7 : Fin 8) : ℕ) + 1) ⊢ aoW c (accO m ((0 : Fin 5) : ℕ) c) from ao_done m c) $$ Hao
  ihave Hal := (show alUpto m c (((7 : Fin 8) : ℕ) + 1) ⊢ alW c (accL m ((0 : Fin 5) : ℕ) c) from al_done m c) $$ Hal
  have off := off_fold c
  iapply (wp_fold m K c 0 256 _ _ _ _ _ _ _ _ _ _ _ _ _ _ _ _ _ _ _ _ rfl (dev6_eq c) (dev7_eq c) off.1.1 off.1.2.2.1 rfl off.1.2.1 off.1.2.2.2 rfl
      (el_eq 0).1 (el_eq 0).2.1 (el_eq 0).2.2.1 (el_eq 0).2.2.2.1 (f1 c) (below _ [3, 3, 4, 4, 5, 5, 6, 6, 7, 8, 9, 10, 11] rfl 2 (by decide))) $$ [HO Hf0 Hao Hal Hs4 Ht4]
  · isplitr; · iexact HR
    isplitr; · iexact Hlev
    isplitl [HO]; · iexact HO
    isplitl [Hf0]; · iexact Hf0
    isplitl [Hao]; · iexact Hao
    isplitl [Hal]; · iexact Hal
    isplitl [Hs4]; · iexact Hs4
    iexact Ht4
  iintro ⟨HO, Hf0, Hao, Hal, Hs4, Ht4⟩
  iapply (wp_fold m K c 1 128 _ _ _ _ _ _ _ _ _ _ _ _ _ _ _ _ _ _ _ _ rfl (dev8_eq c) (dev9_eq c) off.2.1.1 off.2.1.2.2.1 rfl off.2.1.2.1 off.2.1.2.2.2 rfl
      (el_eq 1).1 (el_eq 1).2.1 (el_eq 1).2.2.1 (el_eq 1).2.2.2.1 (f2 c) (below _ [4, 4, 5, 5, 6, 6, 7, 8, 9, 10, 11] rfl 3 (by decide))) $$ [HO Hf1 Hao Hal Hs3 Ht3]
  · isplitr; · iexact HR
    isplitr; · iexact Hlev
    isplitl [HO]; · iexact HO
    isplitl [Hf1]; · iexact Hf1
    isplitl [Hao]; · iexact Hao
    isplitl [Hal]; · iexact Hal
    isplitl [Hs3]; · iexact Hs3
    iexact Ht3
  iintro ⟨HO, Hf1, Hao, Hal, Hs3, Ht3⟩
  iapply (wp_fold m K c 2 64 _ _ _ _ _ _ _ _ _ _ _ _ _ _ _ _ _ _ _ _ rfl (dev10_eq c) (dev11_eq c) off.2.2.1.1 off.2.2.1.2.2.1 rfl off.2.2.1.2.1 off.2.2.1.2.2.2 rfl
      (el_eq 2).1 (el_eq 2).2.1 (el_eq 2).2.2.1 (el_eq 2).2.2.2.1 (f3 c) (below _ [5, 5, 6, 6, 7, 8, 9, 10, 11] rfl 4 (by decide))) $$ [HO Hf2 Hao Hal Hs2 Ht2]
  · isplitr; · iexact HR
    isplitr; · iexact Hlev
    isplitl [HO]; · iexact HO
    isplitl [Hf2]; · iexact Hf2
    isplitl [Hao]; · iexact Hao
    isplitl [Hal]; · iexact Hal
    isplitl [Hs2]; · iexact Hs2
    iexact Ht2
  iintro ⟨HO, Hf2, Hao, Hal, Hs2, Ht2⟩
  iapply (wp_fold m K c 3 32 _ _ _ _ _ _ _ _ _ _ _ _ _ _ _ _ _ _ _ _ rfl (dev12_eq c) (dev13_eq c) off.2.2.2.1.1 off.2.2.2.1.2.2.1 rfl off.2.2.2.1.2.1 off.2.2.2.1.2.2.2 rfl
      (el_eq 3).1 (el_eq 3).2.1 (el_eq 3).2.2.1 (el_eq 3).2.2.2.1 (f4 c) (below _ [6, 6, 7, 8, 9, 10, 11] rfl 5 (by decide))) $$ [HO Hf3 Hao Hal Hs1 Ht1]
  · isplitr; · iexact HR
    isplitr; · iexact Hlev
    isplitl [HO]; · iexact HO
    isplitl [Hf3]; · iexact Hf3
    isplitl [Hao]; · iexact Hao
    isplitl [Hal]; · iexact Hal
    isplitl [Hs1]; · iexact Hs1
    iexact Ht1
  iintro ⟨HO, Hf3, Hao, Hal, Hs1, Ht1⟩
  iapply (wp_fold m K c 4 16 _ _ _ _ _ _ _ _ _ _ _ _ _ _ _ _ _ _ _ _ rfl (dev14_eq c) (dev15_eq c) off.2.2.2.2.1 off.2.2.2.2.2.2.1 rfl off.2.2.2.2.2.1 off.2.2.2.2.2.2.2 rfl
      (el_eq 4).1 (el_eq 4).2.1 (el_eq 4).2.2.1 (el_eq 4).2.2.2.1 (g0 c) (below _ [7, 8, 9, 10, 11] rfl 6 (by decide))) $$ [HO Hf4 Hao Hal Hs0 Ht0]
  · isplitr; · iexact HR
    isplitr; · iexact Hlev
    isplitl [HO]; · iexact HO
    isplitl [Hf4]; · iexact Hf4
    isplitl [Hao]; · iexact Hao
    isplitl [Hal]; · iexact Hal
    isplitl [Hs0]; · iexact Hs0
    iexact Ht0
  iintro ⟨HO, Hf4, Hao, Hal, Hs0, Ht0⟩
  have offp := off_proj c
  iapply (wp_proj m c 0 _ _ _ _ _ _ rfl offp.1.1 offp.1.2) $$ [Hao Hal Hwo]
  · isplitl [Hao]; · iexact Hao
    isplitl [Hal]; · iexact Hal
    iexact Hwo
  iintro ⟨Hao, Hal, Hwo⟩
  iapply (wp_proj m c 1 _ _ _ _ _ _ rfl offp.2.1.1 offp.2.1.2) $$ [Hao Hal Hwo]
  · isplitl [Hao]; · iexact Hao
    isplitl [Hal]; · iexact Hal
    iexact Hwo
  iintro ⟨Hao, Hal, Hwo⟩
  iapply (wp_proj m c 2 _ _ _ _ _ _ rfl offp.2.2.1.1 offp.2.2.1.2) $$ [Hao Hal Hwo]
  · isplitl [Hao]; · iexact Hao
    isplitl [Hal]; · iexact Hal
    iexact Hwo
  iintro ⟨Hao, Hal, Hwo⟩
  iapply (wp_proj m c 3 _ _ _ _ _ _ rfl offp.2.2.2.1.1 offp.2.2.2.1.2) $$ [Hao Hal Hwo]
  · isplitl [Hao]; · iexact Hao
    isplitl [Hal]; · iexact Hal
    iexact Hwo
  iintro ⟨Hao, Hal, Hwo⟩
  iapply (wp_proj m c 4 _ _ _ _ _ _ rfl offp.2.2.2.2.1.1 offp.2.2.2.2.1.2) $$ [Hao Hal Hwo]
  · isplitl [Hao]; · iexact Hao
    isplitl [Hal]; · iexact Hal
    iexact Hwo
  iintro ⟨Hao, Hal, Hwo⟩
  iapply (wp_proj m c 5 _ _ _ _ _ _ rfl offp.2.2.2.2.2.1.1 offp.2.2.2.2.2.1.2) $$ [Hao Hal Hwo]
  · isplitl [Hao]; · iexact Hao
    isplitl [Hal]; · iexact Hal
    iexact Hwo
  iintro ⟨Hao, Hal, Hwo⟩
  iapply (wp_proj m c 6 _ _ _ _ _ _ rfl offp.2.2.2.2.2.2.1.1 offp.2.2.2.2.2.2.1.2) $$ [Hao Hal Hwo]
  · isplitl [Hao]; · iexact Hao
    isplitl [Hal]; · iexact Hal
    iexact Hwo
  iintro ⟨Hao, Hal, Hwo⟩
  iapply (wp_proj m c 7 _ _ _ _ _ _ rfl offp.2.2.2.2.2.2.2.1.1 offp.2.2.2.2.2.2.2.1.2) $$ [Hao Hal Hwo]
  · isplitl [Hao]; · iexact Hao
    isplitl [Hal]; · iexact Hal
    iexact Hwo
  iintro ⟨Hao, Hal, Hwo⟩
  iapply (wp_put m c _ _ _ offp.2.2.2.2.2.2.2.2 rfl) $$ Hout
  iintro Hout
  have offs := off_spread c
  iapply (wp_spread m c 0 K 16 _ _ _ _ _ rfl (dev16_eq c) offs.1 (el_eq 0).2.2.2.2.1 (el_eq 0).2.2.2.2.2 (g1 c) (below _ [8, 9, 10, 11] rfl 7 (by decide))) $$ [HO Hg0 Hout Hu0]
  · isplitr; · iexact HR
    isplitr; · iexact Hlev
    isplitl [HO]; · iexact HO
    isplitl [Hg0]; · iexact Hg0
    isplitl [Hout]; · iexact Hout
    iexact Hu0
  iintro ⟨HO, Hg0, Hout⟩
  iapply (wp_spread m c 1 K 32 _ _ _ _ _ rfl (dev17_eq c) offs.2.1 (el_eq 1).2.2.2.2.1 (el_eq 1).2.2.2.2.2 (g2 c) (below _ [9, 10, 11] rfl 8 (by decide))) $$ [HO Hg1 Hout Hu1]
  · isplitr; · iexact HR
    isplitr; · iexact Hlev
    isplitl [HO]; · iexact HO
    isplitl [Hg1]; · iexact Hg1
    isplitl [Hout]; · iexact Hout
    iexact Hu1
  iintro ⟨HO, Hg1, Hout⟩
  iapply (wp_spread m c 2 K 64 _ _ _ _ _ rfl (dev18_eq c) offs.2.2.1 (el_eq 2).2.2.2.2.1 (el_eq 2).2.2.2.2.2 (g3 c) (below _ [10, 11] rfl 9 (by decide))) $$ [HO Hg2 Hout Hu2]
  · isplitr; · iexact HR
    isplitr; · iexact Hlev
    isplitl [HO]; · iexact HO
    isplitl [Hg2]; · iexact Hg2
    isplitl [Hout]; · iexact Hout
    iexact Hu2
  iintro ⟨HO, Hg2, Hout⟩
  iapply (wp_spread m c 3 K 128 _ _ _ _ _ rfl (dev19_eq c) offs.2.2.2.1 (el_eq 3).2.2.2.2.1 (el_eq 3).2.2.2.2.2 (g4 c) (below _ [11] rfl 10 (by decide))) $$ [HO Hg3 Hout Hu3]
  · isplitr; · iexact HR
    isplitr; · iexact Hlev
    isplitl [HO]; · iexact HO
    isplitl [Hg3]; · iexact Hg3
    isplitl [Hout]; · iexact Hout
    iexact Hu3
  iintro ⟨HO, Hg3, Hout⟩
  iapply (wp_spread m c 4 K 256 _ _ _ _ _ rfl (dev20_eq c) offs.2.2.2.2 (el_eq 4).2.2.2.2.1 (el_eq 4).2.2.2.2.2 [] (below _ [] rfl 11 (by decide))) $$ [HO Hg4 Hout Hu4]
  · isplitr; · iexact HR
    isplitr; · iexact Hlev
    isplitl [HO]; · iexact HO
    isplitl [Hg4]; · iexact Hg4
    isplitl [Hout]; · iexact Hout
    iexact Hu4
  iintro ⟨HO, Hg4, Hout⟩
  iapply Hk
  isplitl [HO]; · iexact HO
  isplitl [Hz Hf0 Hf1 Hf2 Hf3 Hf4 Hg0 Hg1 Hg2 Hg3 Hg4]
  · unfold closed
    isplitl [Hz]; · iexact Hz
    isplitl [Hf0]; · iexact Hf0
    isplitl [Hf1]; · iexact Hf1
    isplitl [Hf2]; · iexact Hf2
    isplitl [Hf3]; · iexact Hf3
    isplitl [Hf4]; · iexact Hf4
    isplitl [Hg0]; · iexact Hg0
    isplitl [Hg1]; · iexact Hg1
    isplitl [Hg2]; · iexact Hg2
    isplitl [Hg3] <;> iassumption
  isplitl [Hao Hal Hs0 Hs1 Hs2 Hs3 Hs4 Ht0 Ht1 Ht2 Ht3 Ht4]
  · unfold aoW alW
    isplitl [Hao]; · iexists _; iexact Hao
    isplitl [Hal]; · iexists _; iexact Hal
    isplitl [Hs0 Hs1 Hs2 Hs3 Hs4]
    · iapply (so_five c).2
      unfold soAny
      isplitl [Hs1 Hs2 Hs3 Hs4]
      · isplitl [Hs2 Hs3 Hs4]
        · isplitl [Hs3 Hs4]
          · isplitl [Hs4]
            · iexists _; iexact Hs4
            · iexists _; iexact Hs3
          · iexists _; iexact Hs2
        · iexists _; iexact Hs1
      · iexists _; iexact Hs0
    · iapply (sl_five c).2
      unfold slAny
      isplitl [Ht1 Ht2 Ht3 Ht4]
      · isplitl [Ht2 Ht3 Ht4]
        · isplitl [Ht3 Ht4]
          · isplitl [Ht4]
            · iexists _; iexact Ht4
            · iexists _; iexact Ht3
          · iexists _; iexact Ht2
        · iexists _; iexact Ht1
      · iexists _; iexact Ht0
  isplitl [Hx]; · iexact Hx
  isplitl [Hwq]; · iexact Hwq
  isplitl [Hwo]; · iexact Hwo
  isplitl [HK]; · iexact HK
  isplitl [HV]; · iexact HV
  iapply (Entails.of_eq (out_whole c (outAll m)).symm)
  iexact Hout

end Body

end Cert.KernelIdeal.Own
end
-- ==== Proof.KiLaunch.lean ====
/-
  The launch: the semaphores' ghost state dealt to the devices, the rights to raise each semaphore to the device that raises it,
  the credits; then the run of the whole program on all devices.
-/
module

public import proofs.«01_k».proof.Proof.KiBody
public import Idealize.ShloMosaic.Lib.Pipeline.CollectiveSegs

@[expose] public section

noncomputable section

namespace Cert.KernelIdeal.Own

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### Families over the exchange's semaphores -/

theorem kcell_inj : Function.Injective (kcell : Dev nD × Ck → GSem nD τ sig) := by
  rintro ⟨c, k⟩ ⟨c', k'⟩ h
  have h1 : c = c' := congrArg (fun g : GSem nD τ sig => g.1.1) h
  have h2 : semOf k = semOf k' := congrArg Prod.snd h
  have h3 := congrArg ckOf h2
  rw [ckOf_semOf, ckOf_semOf] at h3
  exact Prod.ext h1 (Option.some.inj h3)
theorem semOf_inj : Function.Injective semOf := fun k k' h => Option.some.inj (by rw [← ckOf_semOf, ← ckOf_semOf, h])

omit [FloatOps F] in
theorem over_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem over_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
/-- The barrier's, and every array's. -/
theorem over_some (Φ : Ck → sProp 𝕄) : bigSep Finset.univ Φ = iprop(Φ none ∗ bigSep Finset.univ fun x : Fin 6 × Fin 5 => Φ (some x)) := by
  rw [bigSep_univ_at Φ none, show Finset.univ.erase (none : Ck) = Finset.univ.map Function.Embedding.some from by ext x; cases x <;> simp, bigSep_map]
  rfl
omit [FloatOps F] in
/-- The barrier's, and round after round. -/
theorem over_rounds (Φ : Ck → sProp 𝕄) :
    bigSep Finset.univ Φ = iprop(Φ none ∗ bigSep Finset.univ fun r : Fin 5 => bigSep Finset.univ fun g : Fin 6 => Φ (some (g, r))) := by
  rw [over_some, bigSep_univ_equiv (Equiv.prodComm (Fin 5) (Fin 6)) (fun x => Φ (some x)), bigSep_univ_prod]
  rfl

/-! ### Tokens, by the device that spends them -/

/-- The device whose semaphore `c` raises: its own when its copy has left, the peer's when it has landed. -/
def payee (c : Dev nD) (g : Fin 6) (r : Fin 5) : Dev nD := if (g : ℕ) % 2 = 1 then pr (bit g r) c else c
theorem payee_payee : ∀ (c : Dev nD) (g : Fin 6) (r : Fin 5), payee (payee c g r) g r = c := by decide +kernel

abbrev Tok : Type := Fin 5 ⊕ Fin 5 × Fin 6
def tokOf (x : Dev nD × Tok) : GSem nD τ sig × ℕ × Fin 5 := match x.2 with
  | .inl k => (kcell (pr k x.1, none), 0, k)
  | .inr (r, g) => (kcell (payee x.1 g r, some (g, r)), 0, 0)
theorem tokOf_inj : Function.Injective tokOf := by
  rintro ⟨c, j⟩ ⟨c', j'⟩ h
  rcases j with k | ⟨r, g⟩ <;> rcases j' with k' | ⟨r', g'⟩
  · have e1 := kcell_inj (congrArg Prod.fst h)
    have e2 : k = k' := congrArg (fun x : GSem nD τ sig × ℕ × Fin 5 => x.2.2) h
    subst e2
    have e3 : pr k c = pr k c' := congrArg Prod.fst e1
    rw [show c = c' from by rw [← pr_pr k c, e3, pr_pr]]
  · have e1 := kcell_inj (congrArg Prod.fst h)
    exact absurd (congrArg Prod.snd e1) (by simp)
  · have e1 := kcell_inj (congrArg Prod.fst h)
    exact absurd (congrArg Prod.snd e1) (by simp)
  · have e1 := kcell_inj (congrArg Prod.fst h)
    have e2 : (g, r) = (g', r') := Option.some.inj (congrArg Prod.snd e1)
    obtain ⟨rfl, rfl⟩ := Prod.mk.inj e2
    have e3 : payee c g r = payee c' g r := congrArg Prod.fst e1
    rw [show c = c' from by rw [← payee_payee c g r, e3, payee_payee]]

def exCells : Finset (GSem nD τ sig) := Finset.univ.map ⟨kcell, kcell_inj⟩
def exToks : Finset (GSem nD τ sig × ℕ × Fin 5) := Finset.univ.map ⟨tokOf, tokOf_inj⟩

def u₀ : UU := (initOf (Pipeline.cells cfgs cellOf_inj) (Pipeline.launchToks cfgs cellOf_inj), initOf exCells exToks)

/-- Device `c`'s positions, and the rights to the raises it makes. -/
def posts (c : Dev nD) : sProp 𝕄 := bigSep Finset.univ fun k : Ck => atPos ER (kcell (c, k)) 0 ∅ 0
def rights (c : Dev nD) : sProp 𝕄 :=
  iprop((bigSep Finset.univ fun k : Fin 5 => dutyTok ER (kcell (pr k c, none)) 0 k)
    ∗ bigSep Finset.univ fun r : Fin 5 => bigSep Finset.univ fun g : Fin 6 => dutyTok ER (kcell (payee c g r, some (g, r))) 0 0)
/-- Its credits. -/
def credits (c : Dev nD) : sProp 𝕄 :=
  iprop(cred (tallyAt (kcell (c, none)) () 5)
    ∗ bigSep Finset.univ fun r : Fin 5 => iprop(cred (tallyAt (kcell (c, some (1, r))) () (crd 1 r)) ∗ cred (tallyAt (kcell (c, some (3, r))) () (crd 3 r))
      ∗ cred (tallyAt (kcell (c, some (5, r))) () (crd 5 r))))

omit [FloatOps F] in
theorem round_intro (c : Dev nD) (r : Fin 5) :
    iprop((bigSep Finset.univ fun g : Fin 6 => atPos ER (kcell (c, some (g, r))) 0 ∅ 0)
        ∗ (bigSep Finset.univ fun g : Fin 6 => dutyTok ER (kcell (payee c g r, some (g, r))) 0 0)
        ∗ cred (tallyAt (kcell (c, some (1, r))) () (crd 1 r)) ∗ cred (tallyAt (kcell (c, some (3, r))) () (crd 3 r))
        ∗ cred (tallyAt (kcell (c, some (5, r))) () (crd 5 r)))
      ⊢ (iprop(foldRes c r ∗ pairRes c (pr r c) 4 5 r) : sProp 𝕄) := by
  rw [over_six, over_six]
  unfold foldRes pairRes
  iintro ⟨⟨A0, A1, A2, A3, A4, A5⟩, ⟨T0, T1, T2, T3, T4, T5⟩, C1, C3, C5⟩
  isplitl [A0 A1 A2 A3 T0 T1 T2 T3 C1 C3]
  · isplitl [A0 A1 T0 T1 C1]
    · isplitl [A0]; · iexact A0
      isplitl [A1]; · iexact A1
      isplitl [T0]; · iexact T0
      isplitl [T1]; · iexact T1
      iexact C1
    · isplitl [A2]; · iexact A2
      isplitl [A3]; · iexact A3
      isplitl [T2]; · iexact T2
      isplitl [T3]; · iexact T3
      iexact C3
  · isplitl [A4]; · iexact A4
    isplitl [A5]; · iexact A5
    isplitl [T4]; · iexact T4
    isplitl [T5]; · iexact T5
    iexact C5

omit [FloatOps F] in
theorem exch_intro (c : Dev nD) : iprop(posts c ∗ rights c ∗ credits c) ⊢ (exch c : sProp 𝕄) := by
  unfold posts rights credits exch barRes
  rw [over_rounds, over_five fun k : Fin 5 => (dutyTok ER (kcell (pr k c, none)) 0 k : sProp 𝕄)]
  iintro ⟨⟨Ha, HA⟩, ⟨⟨T0, T1, T2, T3, T4⟩, HT⟩, Hc, HC⟩
  ihave H := (show iprop((bigSep Finset.univ fun r : Fin 5 => bigSep Finset.univ fun g : Fin 6 => atPos ER (kcell (c, some (g, r))) 0 ∅ 0)
        ∗ (bigSep Finset.univ fun r : Fin 5 => bigSep Finset.univ fun g : Fin 6 => dutyTok ER (kcell (payee c g r, some (g, r))) 0 0)
        ∗ bigSep Finset.univ fun r : Fin 5 => iprop(cred (tallyAt (kcell (c, some (1, r))) () (crd 1 r)) ∗ cred (tallyAt (kcell (c, some (3, r))) () (crd 3 r))
            ∗ cred (tallyAt (kcell (c, some (5, r))) () (crd 5 r))))
      ⊢ (bigSep Finset.univ fun r : Fin 5 => iprop(foldRes c r ∗ pairRes c (pr r c) 4 5 r) : sProp 𝕄) from by
        rw [← bigSep_sep', ← bigSep_sep']
        exact bigSep_mono fun r _ => round_intro c r) $$ [HA HT HC]
  · isplitl [HA]; · iexact HA
    isplitl [HT]; · iexact HT
    iexact HC
  ihave H := (Entails.of_eq (over_five _)) $$ H
  icases H with ⟨⟨F0, G0⟩, ⟨F1, G1⟩, ⟨F2, G2⟩, ⟨F3, G3⟩, F4, G4⟩
  isplitl [Ha T0 T1 T2 T3 T4 Hc]
  · isplitl [Ha]; · iexact Ha
    isplitl [T0]; · iexact T0
    isplitl [T1]; · iexact T1
    isplitl [T2]; · iexact T2
    isplitl [T3]; · iexact T3
    isplitl [T4]; · iexact T4
    iexact Hc
  isplitl [F0]; · iexact F0
  isplitl [F1]; · iexact F1
  isplitl [F2]; · iexact F2
  isplitl [F3]; · iexact F3
  isplitl [F4]; · iexact F4
  isplitl [G0]; · iexact G0
  isplitl [G1]; · iexact G1
  isplitl [G2]; · iexact G2
  isplitl [G3]; · iexact G3
  iexact G4

/-! ### The counters -/

/-- The kernel's own semaphores. -/
abbrev osem (x : Fin 6 × Fin 5) : SemLoc sig := semOf (some x)
theorem ownSemFacts : Pipeline.OwnSemFacts cfg0.spec osem := by decide +kernel

omit [FloatOps F] in
theorem unscopedSems0_eq (c : Dev nD) : (unscopedSems0 c : sProp 𝕄) = semVal (kcell (c, none)) 0 := by
  unfold unscopedSems0; rw [bigSep_eq_bigSepL_of_eq [SemLoc.reg barS] (by decide +kernel) (by decide)]; rfl
omit [FloatOps F] in
theorem sems0_eq (c : Dev nD) :
    (bigSep Finset.univ fun k : Ck => semVal (kcell (c, k)) 0 : sProp 𝕄)
      = iprop(unscopedSems0 c ∗ Pipeline.ownSems0 (Ix := Unit) (Name := ℕ) (U := UU) (Lvl := ℕ) (Val := Elt F) (τ := τ) osem c) := by
  rw [over_some, unscopedSems0_eq]; rfl
omit [FloatOps F] in
theorem closed_sems (c : Dev nD) : (closed c : sProp 𝕄)
    ⊢ iprop(unscopedSems0 c ∗ Pipeline.ownSems0 (Ix := Unit) (Name := ℕ) (U := UU) (Lvl := ℕ) (Val := Elt F) (τ := τ) osem c) := by
  rw [← sems0_eq, over_rounds, over_five]
  simp only [over_six]
  unfold closed foldZero pairZero
  iintro ⟨Hz, F0, F1, F2, F3, F4, G0, G1, G2, G3, G4⟩
  isplitl [Hz]; · iexact Hz
  icases F0 with ⟨⟨A0, A1⟩, A2, A3⟩
  icases F1 with ⟨⟨B0, B1⟩, B2, B3⟩
  icases F2 with ⟨⟨C0, C1⟩, C2, C3⟩
  icases F3 with ⟨⟨D0, D1⟩, D2, D3⟩
  icases F4 with ⟨⟨E0, E1⟩, E2, E3⟩
  isplitl [A0 A1 A2 A3 G0]
  · isplitl [A0]; · iexact A0
    isplitl [A1]; · iexact A1
    isplitl [A2]; · iexact A2
    isplitl [A3]; · iexact A3
    iexact G0
  isplitl [B0 B1 B2 B3 G1]
  · isplitl [B0]; · iexact B0
    isplitl [B1]; · iexact B1
    isplitl [B2]; · iexact B2
    isplitl [B3]; · iexact B3
    iexact G1
  isplitl [C0 C1 C2 C3 G2]
  · isplitl [C0]; · iexact C0
    isplitl [C1]; · iexact C1
    isplitl [C2]; · iexact C2
    isplitl [C3]; · iexact C3
    iexact G2
  isplitl [D0 D1 D2 D3 G3]
  · isplitl [D0]; · iexact D0
    isplitl [D1]; · iexact D1
    isplitl [D2]; · iexact D2
    isplitl [D3]; · iexact D3
    iexact G3
  isplitl [E0]; · iexact E0
  isplitl [E1]; · iexact E1
  isplitl [E2]; · iexact E2
  isplitl [E3]; · iexact E3
  iexact G4

/-! ### The launch credit -/

/-- What every device owes, as the bit and the semaphore of each raise. -/
def dues : List (Fin 5 × Ck) :=
  [(0, none), (1, none), (2, none), (3, none), (4, none), (4, some (1, 0)), (4, some (3, 0)), (3, some (1, 1)), (3, some (3, 1)), (2, some (1, 2)), (2, some (3, 2)),
    (1, some (1, 3)), (1, some (3, 3)), (0, some (1, 4)), (0, some (3, 4)), (0, some (5, 0)), (1, some (5, 1)), (2, some (5, 2)), (3, some (5, 3)), (4, some (5, 4))]
def owing (ys : List (Fin 5 × Ck)) (c : Dev nD) : List (Dev nD × Ck) := ys.map fun y => (pr y.1 c, y.2)
theorem b0_eq (c : Dev nD) : b0 c = owing dues c := rfl

theorem owed_total (ys : List (Fin 5 × Ck)) (x : Dev nD × Ck) :
    (∑ d : Dev nD, tl (owing ys d) (kcell x) ()) = (ys.map Prod.snd).count x.2 * unit x.2 := by
  induction ys with
  | nil => simp [owing, tl]
  | cons y ys ih =>
    have e : ∀ d : Dev nD, tl (owing (y :: ys) d) (kcell x) () = tl (owing ys d) (kcell x) () + (if d = pr y.1 x.1 ∧ x.2 = y.2 then unit x.2 else 0) := by
      intro d
      rw [show owing (y :: ys) d = (pr y.1 d, y.2) :: owing ys d from rfl, tl_cons, Pi.add_apply, Finsupp.add_apply, tallyAt_apply]
      refine congrArg (fun z => tl (owing ys d) (kcell x) () + z) ?_
      by_cases h : d = pr y.1 x.1 ∧ x.2 = y.2
      · rw [if_pos h, if_pos, h.2]
        refine ⟨congrArg kcell (Prod.ext ?_ h.2), rfl⟩
        rw [h.1, pr_pr]
      · rw [if_neg h, if_neg]
        rintro ⟨h', -⟩
        have h' := kcell_inj h'
        have h1 : x.1 = pr y.1 d := congrArg Prod.fst h'
        have h2 : x.2 = y.2 := congrArg Prod.snd h'
        exact h ⟨by rw [h1, pr_pr], h2⟩
    rw [Finset.sum_congr rfl fun d _ => e d, Finset.sum_add_distrib, ih]
    by_cases h : x.2 = y.2
    · simp only [h, and_true, Finset.sum_ite_eq', Finset.mem_univ, if_true, List.map_cons, List.count_cons_self]
      ring
    · simp only [h, and_false, if_false, Finset.sum_const_zero, Nat.add_zero, List.map_cons]
      rw [List.count_cons_of_ne (Ne.symm h)]

omit [FloatOps F] in
theorem creds (c : Dev nD) : (Pipeline.launchCred (fun c => tl (b0 c)) c : sProp 𝕄) ⊢ credits c := by
  have hk : ∀ k : Ck, tallyOn (kcell (c, k)) (launchCredit (Pipeline.owing fun c => tl (b0 c)) 0 (kcell (c, k)))
      = (tallyAt (kcell (c, k)) () ((dues.map Prod.snd).count k * unit k) : CellTallies nD τ sig Unit) := by
    intro k
    unfold tallyAt; refine congrArg _ (Finsupp.ext fun u => ?_); cases u
    rw [Pipeline.launchCredit_owing, Finsupp.single_eq_same]
    exact owed_total dues (c, k)
  have hr : ∀ r : Fin 5, (bigSep Finset.univ fun g : Fin 6 => cred (tallyAt (kcell (c, some (g, r))) () ((dues.map Prod.snd).count (some (g, r)) * unit (some (g, r)))) : sProp 𝕄)
      ⊢ iprop(cred (tallyAt (kcell (c, some (1, r))) () (crd 1 r)) ∗ cred (tallyAt (kcell (c, some (3, r))) () (crd 3 r))
        ∗ cred (tallyAt (kcell (c, some (5, r))) () (crd 5 r))) := by
    intro r
    have h1 : ∀ r : Fin 5, (dues.map Prod.snd).count (some ((1 : Fin 6), r)) = 1 := by decide
    have h3 : ∀ r : Fin 5, (dues.map Prod.snd).count (some ((3 : Fin 6), r)) = 1 := by decide
    have h5 : ∀ r : Fin 5, (dues.map Prod.snd).count (some ((5 : Fin 6), r)) = 1 := by decide
    rw [over_six, h1, h3, h5, Nat.one_mul, Nat.one_mul, Nat.one_mul]
    iintro ⟨-, H1, -, H3, -, H5⟩
    isplitl [H1]; · iexact H1
    isplitl [H3]; · iexact H3
    iexact H5
  unfold Pipeline.launchCred
  refine (bigSep_subset (Finset.subset_univ (Finset.univ.map ⟨semOf, semOf_inj⟩))).trans ?_
  rw [bigSep_map]
  refine (bigSep_mono (Ψ := fun k : Ck => cred (tallyAt (kcell (c, k)) () ((dues.map Prod.snd).count k * unit k))) fun k _ => Entails.of_eq (congrArg cred (hk k))).trans ?_
  rw [over_rounds]
  unfold credits
  exact BI.sep_mono (Entails.of_eq (congrArg cred (congrArg (tallyAt (kcell (c, none)) ()) (show (dues.map Prod.snd).count none * unit none = 5 from by decide))))
    (bigSep_mono fun r _ => hr r)

/-! ### The deal -/

/-- What the launch element deals device `c`. -/
def G (c : Dev nD) : sProp 𝕄 :=
  iprop((bigSep Finset.univ fun k : Ck => roundState ER (Rd m) (kcell (c, k)) 0)
    ∗ (bigSep Finset.univ fun k : Ck => iprop(atPos ER (kcell (c, k)) 0 ∅ 0 ∗ reached ER (kcell (c, k)) 0)) ∗ rights c)
/-- What it starts from. -/
def G' (c : Dev nD) : sProp 𝕄 := iprop(∃ K, recs m K ∗ posts c ∗ rights c)

theorem deal : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Ck => Φ (kcell (c, k)) := by
    unfold exCells; rw [bigSep_map, bigSep_univ_prod]; rfl
  have hT : bigSep exToks (fun x => (dutyTok ER x.1 x.2.1 x.2.2 : sProp 𝕄)) = bigSep Finset.univ fun c : Dev nD => rights c := by
    unfold exToks; rw [bigSep_map, bigSep_univ_prod]
    exact bigSep_congr fun c _ => by
      unfold rights
      rw [BI.bigSep_univ_sum, bigSep_univ_prod (α := Fin 5) (β := Fin 6)]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ rights c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Ck => semVal (kcell (c, k)) 0) ∗ bigSep Finset.univ fun k : Ck => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ rights c) : sProp 𝕄)
      ⊢ bigSep Finset.univ (G' m) := by
  rw [bigSep_sep', bigSep_sep', ← bigSep_univ_prod (fun x : Dev nD × Ck => iprop(∃ κ : ℕ, cellInv ER (Rd m) κ (kcell x))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun x : Dev nD × Ck => (reached ER (kcell x) 0 : sProp 𝕄))]
  iintro ⟨HI, ⟨Hat, #HR⟩, Htok⟩
  ihave HK := (BI.bigSep_exists_pi Finset.univ (fun (x : Dev nD × Ck) (κ : ℕ) => (cellInv ER (Rd m) κ (kcell x) : sProp 𝕄))) $$ HI
  icases HK with ⟨%K, #HI⟩
  iapply (share_out (R := recs m K) (Φ := fun c => iprop(posts c ∗ rights c)) fun c _ => by
    unfold G'; iintro ⟨#H, Hp, Hr⟩; iexists K
    isplitr; · iexact H
    isplitl [Hp]; · iexact Hp
    iexact Hr)
  isplitr
  · unfold recs; rw [bigSep_sep']
    isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The pipeline's data -/

def start (c : Dev nD) : sProp 𝕄 := iprop(G' m c ∗ credits c ∗ levAts L lv)
def Φ₀ (c : Dev nD) : sProp 𝕄 := iprop(start m c ∗ scr c)
def Φ₁ (c : Dev nD) : sProp 𝕄 := iprop(closed c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => wqS m c
    | ⟨2, _⟩ => woS m c
    | ⟨3, _⟩ => kS m c
    | ⟨4, _⟩ => vS m c
    | ⟨5, _⟩ => outAll m
  Φ t := match t with
    | ⟨0, _⟩ => Φ₀ m c
    | ⟨_ + 1, _⟩ => Φ₁ c
  q _ := fullShare
  owed t := match t with
    | ⟨0, _⟩ => tl (b0 c)
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem stg_eq (c : Dev nD) (b : Ref sig .tc) (X : b.ty.Contents (Elt F)) : (stg c b X : sProp 𝕄) ⊣⊢ ((c : Thread nD τ).loc b) ↦{fullShare} X := by
  constructor
  · iintro ⟨%f, %h, H⟩; subst h; iexact H
  · iintro H; iexists X
    isplitr; · (ipureintro; rfl)
    iexact H

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ c ∗ (dats m ρ 0 c).owesAt () t0_0.succ ∗ stg c cc0_stg0_0 (xS m c) ∗ stg c cc0_stg1_0 (wqS m c) ∗ stg c cc0_stg2_0 (woS m c)
    ∗ stg c cc0_stg3_0 (kS m c) ∗ stg c cc0_stg4_0 (vS m c) ∗ stg c cc0_stg5_0 (outAll m))

theorem before_x (c : Dev nD) (d) : (dats m ρ 0 c).before (0 : Fin 6) t0_0 d = xS m c := by unfold Dat.before; rw [if_pos (fetch0_0 t0_0)]; rfl
theorem before_wq (c : Dev nD) (d) : (dats m ρ 0 c).before (1 : Fin 6) t0_0 d = wqS m c := by unfold Dat.before; rw [if_pos (fetch0_1 t0_0)]; rfl
theorem before_wo (c : Dev nD) (d) : (dats m ρ 0 c).before (2 : Fin 6) t0_0 d = woS m c := by unfold Dat.before; rw [if_pos (fetch0_2 t0_0)]; rfl
theorem before_k (c : Dev nD) (d) : (dats m ρ 0 c).before (3 : Fin 6) t0_0 d = kS m c := by unfold Dat.before; rw [if_pos (fetch0_3 t0_0)]; rfl
theorem before_v (c : Dev nD) (d) : (dats m ρ 0 c).before (4 : Fin 6) t0_0 d = vS m c := by unfold Dat.before; rw [if_pos (fetch0_4 t0_0)]; rfl

theorem body_pre_post (c : Dev nD) :
    bodyPre m ρ c ⊢ wp frame (wpE (defs₀ (F := F)) 𝒱₀ (c : Thread nD τ) none) Set.univ phases (fun _ => bodyPost m ρ c) := by
  unfold bodyPre Φ₀ start G' bodyPost
  iintro ⟨⟨⟨⟨%K, #HR, Hpo, Hri⟩, Hcr, #Hlev⟩, Hscr⟩, Ho, ⟨%d0, Hx⟩, ⟨%d1, Hwq⟩, ⟨%d2, Hwo⟩, ⟨%d3, HK⟩, ⟨%d4, HV⟩, ⟨%d5, Hout⟩⟩
  rw [before_x, before_wq, before_wo, before_k, before_v]
  unfold Dat.owesAt Pipeline.owesWithin
  icases Ho with ⟨%W, %hW, HO⟩
  rw [show (dats m ρ 0 c).owed t0_0.castSucc = tl (b0 c) from rfl]
  ihave Hx := (stg_eq c _ _).1 $$ Hx
  ihave Hwq := (stg_eq c _ _).1 $$ Hwq
  ihave Hwo := (stg_eq c _ _).1 $$ Hwo
  ihave HK := (stg_eq c _ _).1 $$ HK
  ihave HV := (stg_eq c _ _).1 $$ HV
  ihave Hout := (stg_eq c _ _).1 $$ Hout
  iapply (wp_phases m c K _) $$ [HO Hpo Hri Hcr Hscr Hx Hwq Hwo HK HV Hout]
  · isplitr; · iexact HR
    isplitr; · iexact Hlev
    isplitl [HO]
    · unfold owesL; iexists W; iexact HO
    isplitl [Hpo Hri Hcr]
    · iapply (exch_intro c)
      isplitl [Hpo]; · iexact Hpo
      isplitl [Hri]; · iexact Hri
      iexact Hcr
    isplitl [Hscr]; · iexact Hscr
    isplitl [Hx]; · unfold xP; iexact Hx
    isplitl [Hwq]; · unfold wqP; iexact Hwq
    isplitl [Hwo]; · unfold woP; iexact Hwo
    isplitl [HK]; · unfold kP; iexact HK
    isplitl [HV]; · unfold vP; iexact HV
    iexists _; iexact Hout
  unfold owesL xP wqP woP kP vP
  iintro ⟨⟨%W', HO⟩, Hcl, Hscr, Hx, Hwq, Hwo, HK, HV, Hout⟩
  unfold Φ₁
  rw [show (dats m ρ 0 c).owed t0_0.succ = 0 from rfl]
  isplitl [Hcl Hscr]
  · isplitl [Hcl]; · iexact Hcl
    iexact Hscr
  isplitl [HO]
  · iexists W'
    isplitr; · ipureintro; exact fun _ _ => Or.inl trivial
    iexact HO
  isplitl [Hx]; · iapply (stg_eq c _ _).2; iexact Hx
  isplitl [Hwq]; · iapply (stg_eq c _ _).2; iexact Hwq
  isplitl [Hwo]; · iapply (stg_eq c _ _).2; iexact Hwo
  isplitl [HK]; · iapply (stg_eq c _ _).2; iexact HK
  isplitl [HV]; · iapply (stg_eq c _ _).2; iexact HV
  iapply (stg_eq c _ _).2; iexact Hout

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  refine (body_pre_post m ρ c).trans (Entails.of_eq ?_)
  rw [← body_eq]
  rfl

/-! ### The run -/

theorem share_eq (c : Dev nD) (w : Fin cfg0.W) : (dats m ρ 0 c).share w = fullShare := by unfold Dat.share; split <;> rfl

omit [FloatOps F] in
theorem mayWait_stage (c : Dev nD) (q : DmaSem sig) (hq : lv ((c : Thread nD τ), SemLoc.dma q) () = 0) (O : CellTallies nD τ sig Unit) (hO : O = tl (b0 c) ∨ O = 0) :
    (levAts L lv : sProp 𝕄) ⊢ MayWait (c : Thread nD τ) (.dma q) () O := by
  rcases hO with rfl | rfl
  · exact mayWait_tl c _ _ (by rw [hq]; exact below _ [1, 1, 1, 1, 1, 2, 2, 3, 3, 4, 4, 5, 5, 6, 6, 7, 8, 9, 10, 11] rfl 0 (by decide))
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred (fun c => tl (b0 c)) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  iintro ⟨Hc, Hr⟩
  ihave Hc := (closed_sems c) $$ Hc
  icases Hc with ⟨Hu, Hos⟩
  isplitl [Hu]; · iexact Hu
  isplitl [Hos]; · iexact Hos
  iexact Hr

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On all devices, from any memory with zero counters, for any float values: every weakly fair execution terminates, every
    window's array ends at the computed contents, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => tl (b0 c)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Own
end
-- ==== Proof.KiRun.lean ====
/-
  The run read at the program's arguments and result: the result is what the last phase gathers, the arguments are unchanged.
-/
module

public import proofs.«01_k».proof.Proof.KiLaunch

@[expose] public section

noncomputable section

namespace Cert.KernelIdeal.Own

open Cert.KernelIdeal Cert.KernelIdeal.Gen
open Idealize.ShloMosaic Idealize.ShloMosaic.ValueIdx Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ### A window's only block is its array -/

theorem emb_x (t : Fin 1) (y : S1x512x1024.Idx) : (win0_0.blk t).view.emb y = y := by
  funext a; apply Fin.ext
  exact (Pipeline.Window.rect_emb_val_off win0_0 t y a).trans (by fin_cases a <;> exact Nat.zero_add _)
theorem emb_wq (t : Fin 1) (y : S1024x1024.Idx) : (win0_1.blk t).view.emb y = y := by
  funext a; apply Fin.ext
  exact (Pipeline.Window.rect_emb_val_off win0_1 t y a).trans (by fin_cases a <;> exact Nat.zero_add _)
theorem emb_wo (t : Fin 1) (y : S1024x1024.Idx) : (win0_2.blk t).view.emb y = y := by
  funext a; apply Fin.ext
  exact (Pipeline.Window.rect_emb_val_off win0_2 t y a).trans (by fin_cases a <;> exact Nat.zero_add _)
theorem emb_k (t : Fin 1) (y : S1x2048x2x128.Idx) : (win0_3.blk t).view.emb y = y := by
  funext a; apply Fin.ext
  exact (Pipeline.Window.rect_emb_val_off win0_3 t y a).trans (by fin_cases a <;> exact Nat.zero_add _)
theorem emb_v (t : Fin 1) (y : S1x2048x2x128.Idx) : (win0_4.blk t).view.emb y = y := by
  funext a; apply Fin.ext
  exact (Pipeline.Window.rect_emb_val_off win0_4 t y a).trans (by fin_cases a <;> exact Nat.zero_add _)
theorem emb_out (t : Fin 1) (y : S512x1024.Idx) : (win0_5.blk t).view.emb y = y := by
  funext a; apply Fin.ext
  exact (Pipeline.Window.rect_emb_val_off win0_5 t y a).trans (by fin_cases a <;> exact Nat.zero_add _)

theorem xS_eq (c : Dev nD) : xS m c = m ((c.tc : Thread nD τ).loc main_arg0) := funext fun j => by
  unfold xS; rw [View.read_apply, emb_x]; rfl
theorem wqS_eq (c : Dev nD) : wqS m c = m ((c.tc : Thread nD τ).loc main_arg1) := funext fun j => by
  unfold wqS; rw [View.read_apply, emb_wq]; rfl
theorem woS_eq (c : Dev nD) : woS m c = m ((c.tc : Thread nD τ).loc main_arg4) := funext fun j => by
  unfold woS; rw [View.read_apply, emb_wo]; rfl
theorem kS_eq (c : Dev nD) : kS m c = m ((c.tc : Thread nD τ).loc main_arg2) := funext fun j => by
  unfold kS; rw [View.read_apply, emb_k]; rfl
theorem vS_eq (c : Dev nD) : vS m c = m ((c.tc : Thread nD τ).loc main_arg3) := funext fun j => by
  unfold vS; rw [View.read_apply, emb_v]; rfl

theorem final_out (c : Dev nD) : finalA m ρ c (5 : Fin 6) = outAll m := by
  refine (dats m ρ 0 c).arrAt_eq_of_cover (5 : Fin 6) (outAll m) (fun t _ => ?_) (fun i => ⟨t0_0, flush0_5 _, ?_⟩)
  · funext y
    rw [View.read_apply]
    exact congrArg (outAll m) (emb_out t y).symm
  · exact Finset.mem_map.mpr ⟨i, Finset.mem_univ _, emb_out 0 i⟩

/-- On all devices, from any memory with zero counters, for any float values: the result is the gathered one, the arguments are
    unchanged, the counters are zero. -/
theorem run : θ_run defs (onTc (τ := τ) (main (F := F))) ⟨m, fun _ => 0, ρ⟩ fun r =>
    (∀ c : Dev nD, r.2.mem ((c.tc : Thread nD τ).loc main_v1) = outAll m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ _).mono (fun r h => ⟨fun c => by
    have hin : ∀ w : Fin 6, (win0 w).isOut = false → r.2.mem ((win0 w).arr.view.loc (c : Thread nD τ)) = m ((win0 w).arr.view.loc (c : Thread nD τ)) :=
      fun w hw => (h.1 c w).trans ((dats m ρ 0 c).arrAt_in w hw _)
    exact ⟨(h.1 c 5).trans (final_out m ρ c), hin 0 rfl, hin 1 rfl, hin 3 rfl, hin 4 rfl, hin 2 rfl⟩, h.2⟩) (run_main m ρ)

end Cert.KernelIdeal.Own
end
-- ==== Proof.Finite.lean ====
/-
  What the precondition says: every entry of the inputs, of the query weights and of a device's keys is a real number.
-/
module

public import proofs.«01_k».proof.Defs
public import Idealize.ShloMosaic.Lib.ReduceAll
public import Idealize.ShloMosaic.Lib.WordArith

@[expose] public section

noncomputable section

namespace Cert.Own

open Idealize.ShloMosaic

/-- The shape facts of the precondition, at one device's shapes. -/
theorem facts_kernel : Cert.Pre_finite_KernelIdeal.Facts where
  bcast_S_S1x512x1024 := by decide
  reducesTo_S1x512x1024_S_d0_1_2 := by decide
  h_S_ := by decide
  bcast_S_S1024x1024 := by decide
  reducesTo_S1024x1024_S_d0_1 := by decide
  bcast_S_S1x2048x2x128 := by decide
  reducesTo_S1x2048x2x128_S_d0_1_2_3 := by decide

/-- The shape facts of the precondition, at the whole arrays' shapes. -/
theorem facts_reference : Cert.Pre_finite_ReferenceIdeal.Facts where
  bcast_S_S1x512x1024 := by decide
  reducesTo_S1x512x1024_S_d0_1_2 := by decide
  h_S_ := by decide
  bcast_S_S1024x1024 := by decide
  reducesTo_S1024x1024_S_d0_1 := by decide
  bcast_S_S1x65536x2x128 := by decide
  reducesTo_S1x65536x2x128_S_d0_1_2_3 := by decide

/-- A number whose absolute value lies below the word of plus infinity is real. -/
theorem real_of_lt (x : EReal) (h : Ideal.cmp .olt (max x (-x)) (Ideal.ofBits .f32 0x7F800000#32) = 1#1) : ∃ r : ℝ, x = (r : EReal) := by
  rw [show Ideal.ofBits .f32 0x7F800000#32 = ⊤ from by simp [Ideal.ofBits, Ideal.ieee]] at h
  induction x with
  | coe r => exact ⟨r, rfl⟩
  | bot => simp [Ideal.cmp] at h
  | top => simp [Ideal.cmp] at h

attribute [local instance] facts_kernel

instance : Subsingleton Cert.Pre_finite_KernelIdeal.S_.Idx := ⟨fun a b => funext fun i => i.elim0⟩

/-- Inputs, query weights and keys of which the precondition holds have real entries. -/
theorem real_entries (x : FVec Ideal Cert.Pre_finite_KernelIdeal.S1x512x1024 .f32) (wq : FVec Ideal Cert.Pre_finite_KernelIdeal.S1024x1024 .f32)
    (k v : FVec Ideal Cert.Pre_finite_KernelIdeal.S1x2048x2x128 .f32) (wo : FVec Ideal Cert.Pre_finite_KernelIdeal.S1024x1024 .f32)
    (h : Cert.Pre_finite_KernelIdeal.fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  dsimp only [Cert.Pre_finite_KernelIdeal.fn] at h
  have h0 := congrFun h (fun i => i.elim0)
  obtain ⟨h1, hk⟩ := IntOp.andi_eq_one.1 h0
  obtain ⟨hx, hq⟩ := IntOp.andi_eq_one.1 h1
  exact ⟨fun i => real_of_lt _ (Host.reduce_andi_all _ _ _ _ _ hx i), fun i => real_of_lt _ (Host.reduce_andi_all _ _ _ _ _ hq i),
    fun i => real_of_lt _ (Host.reduce_andi_all _ _ _ _ _ hk i)⟩

end Cert.Own
end
-- ==== Proof.KiSums.lean ====
/-
  The halving reduction on extended reals: after its five rounds the sixteen rows a device keeps hold the sum of all devices'.
-/
module

public import proofs.«01_k».proof.Proof.KiGeo
public import Idealize.ShloMosaic.PureOps.Ideal

@[expose] public section

noncomputable section

namespace Cert.KernelIdeal.Own

open Cert.KernelIdeal Cert.KernelIdeal.Gen
open Idealize.ShloMosaic

/-- Device `q` has been added into device `c`'s rows by round `r`. -/
def merged (r : ℕ) (c q : Dev nD) : Prop := q.val % 2 ^ (5 - r) = c.val % 2 ^ (5 - r)
instance (r : ℕ) (c q : Dev nD) : Decidable (merged r c q) := Nat.decEq _ _

theorem merged_step : ∀ r : Fin 5, ∀ c q : Dev nD,
    (merged (r + 1) c q ↔ (merged r c q ∨ merged r (pr (4 - r) c) q)) ∧ ¬ (merged r c q ∧ merged r (pr (4 - r) c) q) := by decide +kernel
theorem merged_start : ∀ c q : Dev nD, merged 0 c q ↔ q = c := by decide +kernel
theorem merged_end : ∀ c q : Dev nD, merged 5 c q := by decide +kernel
theorem kept_step : ∀ r : Fin 5, ∀ c : Dev nD, (lo (5 - r) c ≤ lo (4 - r) c ∧ lo (4 - r) c + sz (4 - r) ≤ lo (5 - r) c + sz (5 - r))
    ∧ lo (5 - r) (pr (4 - r) c) = lo (5 - r) c := by decide +kernel

theorem halve_sum (s : Shape) (z : Fin s.rank) (f : Dev nD → Vec Ideal s .f32) : ∀ r : ℕ, r ≤ 5 → ∀ (c : Dev nD) (i : s.Idx),
    i ∈ rows s z (lo (5 - r) c) (sz (5 - r)) → halve s z f r c i = ∑ q ∈ Finset.univ.filter (fun q => merged r c q), (f q i : EReal)
  | 0, _, c, i, _ => by
    rw [show Finset.univ.filter (fun q => merged 0 c q) = {c} from by ext q; simp [merged_start], Finset.sum_singleton]; rfl
  | r + 1, hr, c, i, hi => by
    have hk := kept_step ⟨r, by omega⟩ c
    have hm := merged_step ⟨r, by omega⟩ c
    have e : 5 - (r + 1) = 4 - r := by omega
    rw [e] at hi
    rw [mem_rows] at hi
    have h1 : i ∈ rows s z (lo (5 - r) c) (sz (5 - r)) := by
      rw [mem_rows]
      have h1 : lo (5 - r) c ≤ lo (4 - r) c := hk.1.1
      have h2 : lo (4 - r) c + sz (4 - r) ≤ lo (5 - r) c + sz (5 - r) := hk.1.2
      constructor <;> omega
    have h2 : i ∈ rows s z (lo (5 - r) (pr (4 - r) c)) (sz (5 - r)) := by
      rw [show lo (5 - r) (pr (4 - r) c) = lo (5 - r) c from hk.2]; exact h1
    have hu : Finset.univ.filter (fun q => merged (r + 1) c q)
        = Finset.univ.filter (fun q => merged r c q) ∪ Finset.univ.filter (fun q => merged r (pr (4 - r) c) q) := by
      ext q; simp only [Finset.mem_filter, Finset.mem_univ, true_and, Finset.mem_union]; exact (hm q).1
    have hd : Disjoint (Finset.univ.filter fun q => merged r c q) (Finset.univ.filter fun q => merged r (pr (4 - r) c) q) := by
      rw [Finset.disjoint_left]; intro q h h'
      simp only [Finset.mem_filter, Finset.mem_univ, true_and] at h h'
      exact (hm q).2 ⟨h, h'⟩
    rw [hu, Finset.sum_union hd, ← halve_sum s z f r (by omega) c i h1, ← halve_sum s z f r (by omega) (pr (4 - r) c) i h2]
    exact if_pos (mem_rows.mpr hi)

/-- After the five rounds. -/
theorem halve_five (s : Shape) (z : Fin s.rank) (f : Dev nD → Vec Ideal s .f32) (c : Dev nD) (i : s.Idx) (hi : i ∈ rows s z (lo 0 c) (sz 0)) :
    halve s z f 5 c i = ∑ q : Dev nD, (f q i : EReal) := by
  rw [halve_sum s z f 5 le_rfl c i hi, Finset.filter_true_of_mem fun q _ => merged_end c q]

end Cert.KernelIdeal.Own
end
-- ==== Proof.KiValue.lean ====
/-
  The kernel's payloads on extended reals, read at an index.
-/
module

public import proofs.«01_k».proof.Proof.KiSums
public import Idealize.ShloMosaic.Lib.Pointwise

@[expose] public section

set_option maxRecDepth 16384

noncomputable section

namespace Cert.KernelIdeal.Own

open Cert.KernelIdeal Cert.KernelIdeal.Gen
open Idealize.ShloMosaic

/-- The scale, as the word the kernel prints. -/
abbrev scale : EReal := Ideal.ofBits .f32 0x3DB504F3#32

/-- A query entry is a row of the input times a column of the query weights. -/
theorem qAll_apply (x : FVec Ideal S1x512x1024 .f32) (wq : FVec Ideal S1024x1024 .f32) (i : Fin 512) (n : Fin 1024) :
    qAll x wq (ix2 i n) = ∑ k : Fin 1024, x (ix3 0 i k) * wq (ix2 k n) := by
  unfold qAll
  unfold_payloads
  pointwise
/-- The exponential of the scaled product of the query columns from `o` on and a key. -/
theorem expScores_apply (o : ℕ) (h : S512x1024.Slices ![0, o] S512x128) (ho : o + 128 ≤ 1024) (q : FVec Ideal S512x1024 .f32) (kk : FVec Ideal S1x2048x1x128 .f32)
    (i : Fin 512) (j : Fin 2048) :
    expScores o h q kk (ix2 i j) = Ideal.exp ((∑ e : Fin 128, q (ix2 i ⟨o + e.val, by omega⟩) * kk (ix4 0 j 0 e)) * scale) := by
  pointwise [expScores]
/-- The denominators: sums over the device's keys. -/
theorem rowSums_apply (e : FVec Ideal S512x2048 .f32) (i : Fin 512) : rowSums e (ix2 i 0) = ∑ j : Fin 2048, e (ix2 i j) := by
  pointwise [rowSums]
/-- The numerators: sums over the device's keys of exponential times value. -/
theorem mix_apply (e : FVec Ideal S512x2048 .f32) (vv : FVec Ideal S1x2048x1x128 .f32) (i : Fin 512) (d : Fin 128) :
    mix e vv (ix3 i 0 d) = ∑ j : Fin 2048, e (ix2 i j) * vv (ix4 0 j 0 d) := by
  pointwise [mix]
/-- One head's share of the projection: the quotients times that head's rows of the output weights. -/
theorem headTerm_apply (o : FVec Ideal S16x1x128 .f32) (l : FVec Ideal S16x1 .f32) (w : FVec Ideal S128x1024 .f32) (i : Fin 16) (n : Fin 1024) :
    headTerm (F := Ideal) o l w (ix2 i n) = ∑ d : Fin 128, Ideal.div (o (ix3 i 0 d)) (l (ix2 i 0)) * w (ix2 d n) := by
  pointwise [headTerm]

end Cert.KernelIdeal.Own
end
-- ==== Proof.RefValue.lean ====
/-
  The reference's result on extended reals, read at an index: queries, scaled scores, their exponentials less the row's maximum,
  the quotient of the two sums over the keys, the output projection.
-/
module

public import proofs.«01_k».proof.Proof.Gen.ReferenceIdeal.Run
public import Idealize.ShloMosaic.Lib.Pointwise

@[expose] public section

set_option maxRecDepth 16384

noncomputable section

namespace Cert.ReferenceIdeal.Own

open Cert.ReferenceIdeal Cert.ReferenceIdeal.Gen
open Idealize.ShloMosaic Idealize.ShloMosaic.TcCoe Idealize.SL.Sem

/-- The scale, as the word both programs print. -/
abbrev scale : EReal := Ideal.ofBits .f32 0x3DB504F3#32

/-- The queries, cut into heads. -/
def queries (x : FVec Ideal S1x512x1024 .f32) (wq : FVec Ideal S1024x1024 .f32) : FVec Ideal S1x512x8x128 .f32 :=
  shapeCast _ (Host.dotGeneral dot_S1x512x1024_S1024x1024_S1x512x1024_2_0_01_1_n_n none x wq) shapeCasts_S1x512x1024_S1x512x8x128
/-- A block of two groups of heads, each repeated for its four heads. -/
def repeated (k : FVec Ideal S1x65536x2x128 .f32) : FVec Ideal S1x65536x8x128 .f32 :=
  shapeCast _ (broadcastInDim S1x65536x2x4x128 ![0, 1, 2, 4] bcast_S1x65536x2x128_S1x65536x2x4x128_0_1_2_4 k) shapeCasts_S1x65536x2x4x128_S1x65536x8x128
/-- The scaled scores of every query row against every key, head by head. -/
def scores (q : FVec Ideal S1x512x8x128 .f32) (k : FVec Ideal S1x65536x8x128 .f32) : FVec Ideal S1x8x512x65536 .f32 :=
  mulf (Host.dotGeneral dot_S1x512x8x128_S1x65536x8x128_S1x8x512x65536_3_3_1_1_02_02 none q k)
    (broadcastInDim S1x8x512x65536 ![] bcast_S_S1x8x512x65536 (constant S_ .f32 0x3DB504F3#32))
/-- The exponentials of the scores less their row's maximum. -/
def shifted (s : FVec Ideal S1x8x512x65536 .f32) : FVec Ideal S1x8x512x65536 .f32 :=
  Host.exp (subf s (broadcastInDim S1x8x512x65536 ![0, 1, 2, 3] bcast_S1x8x512x1_S1x8x512x65536_0_1_2_3 (broadcastInDim S1x8x512x1 ![0, 1, 2] bcast_S1x8x512_S1x8x512x1_0_1_2
    (Host.reduce FloatOps.maximumf s (constant S_ .f32 0xFF800000#32) reducesTo_S1x8x512x65536_S1x8x512_d3 h_S_))))
/-- The exponentials' weighted sum of the values over the exponentials' sum. -/
def averages (p : FVec Ideal S1x8x512x65536 .f32) (v : FVec Ideal S1x65536x8x128 .f32) : FVec Ideal S1x512x8x128 .f32 :=
  Host.divf (transpose S1x512x8x128 [0, 3, 1, 2] (Host.dotGeneral dot_S1x65536x8x128_S1x8x512x65536_S1x8x128x512_1_3_3_2_02_01 none v p) transposes_S1x8x128x512_S1x512x8x128_0_3_1_2)
    (broadcastInDim S1x512x8x128 ![0, 1, 2, 3] bcast_S1x512x8x1_S1x512x8x128_0_1_2_3 (transpose S1x512x8x1 [0, 2, 1, 3] (broadcastInDim S1x8x512x1 ![0, 1, 2] bcast_S1x8x512_S1x8x512x1_0_1_2
      (Host.reduceAdd p (constant S_ .f32 0x00000000#32) reducesTo_S1x8x512x65536_S1x8x512_d3 h_S_)) transposes_S1x8x512x1_S1x512x8x1_0_2_1_3))
/-- The heads side by side, times the output weights. -/
def projected (a : FVec Ideal S1x512x8x128 .f32) (wo : FVec Ideal S1024x1024 .f32) : FVec Ideal S512x1024 .f32 :=
  shapeCast _ (Host.dotGeneral dot_S1x512x1024_S1024x1024_S1x512x1024_2_0_01_1_n_n none (shapeCast _ a shapeCasts_S1x512x8x128_S1x512x1024) wo) shapeCasts_S1x512x1024_S512x1024

/-- The reference's result. -/
def result (x : FVec Ideal S1x512x1024 .f32) (wq : FVec Ideal S1024x1024 .f32) (k v : FVec Ideal S1x65536x2x128 .f32)
    (wo : FVec Ideal S1024x1024 .f32) : FVec Ideal S512x1024 .f32 :=
  projected (averages (shifted (scores (queries x wq) (repeated k))) (repeated v)) wo

/-- A query entry is a row of the input times a column of the query weights. -/
theorem queries_apply (x : FVec Ideal S1x512x1024 .f32) (wq : FVec Ideal S1024x1024 .f32) (i : Fin 512) (h : Fin 8) (e : Fin 128) :
    queries x wq (ix4 0 i h e) = ∑ k : Fin 1024, x (ix3 0 i k) * wq (ix2 k ⟨h.val * 128 + e.val, by omega⟩) := by
  pointwise [queries]
/-- Head `h` reads group `h / 4`. -/
theorem repeated_apply (k : FVec Ideal S1x65536x2x128 .f32) (j : Fin 65536) (h : Fin 8) (e : Fin 128) :
    repeated k (ix4 0 j h e) = k (ix4 0 j ⟨h.val / 4, by omega⟩ e) := by
  pointwise [repeated]
/-- A score is the scaled product of a query row and a key. -/
theorem scores_apply (q : FVec Ideal S1x512x8x128 .f32) (k : FVec Ideal S1x65536x8x128 .f32) (i : Fin 512) (h : Fin 8) (j : Fin 65536) :
    scores q k (ix4 0 h i j) = (∑ e : Fin 128, q (ix4 0 i h e) * k (ix4 0 j h e)) * scale := by
  pointwise [scores]
/-- The maximum is taken over the row's keys, from minus infinity. -/
theorem shifted_apply (s : FVec Ideal S1x8x512x65536 .f32) (h : Fin 8) (i : Fin 512) (j : Fin 65536) :
    shifted s (ix4 0 h i j) = Ideal.exp (s (ix4 0 h i j) - Finset.univ.fold max ⊥ fun k : Fin 65536 => s (ix4 0 h i k)) := by
  pointwise [shifted]
  rw [show Ideal.ofBits .f32 0xFF800000#32 = ⊥ from by simp [Ideal.ofBits, Ideal.ieee]]
/-- Numerator and denominator are sums over all the keys. -/
theorem averages_apply (p : FVec Ideal S1x8x512x65536 .f32) (v : FVec Ideal S1x65536x8x128 .f32) (i : Fin 512) (h : Fin 8) (e : Fin 128) :
    averages p v (ix4 0 i h e) = Ideal.div (∑ j : Fin 65536, v (ix4 0 j h e) * p (ix4 0 h i j)) (∑ j : Fin 65536, p (ix4 0 h i j)) := by
  pointwise [averages]
/-- Column `k` of the heads side by side is column `k % 128` of head `k / 128`. -/
theorem projected_apply (a : FVec Ideal S1x512x8x128 .f32) (wo : FVec Ideal S1024x1024 .f32) (i : Fin 512) (n : Fin 1024) :
    projected a wo (ix2 i n) = ∑ k : Fin 1024, a (ix4 0 i ⟨k.val / 128, by omega⟩ ⟨k.val % 128, Nat.mod_lt _ (by decide)⟩) * wo (ix2 k n) := by
  pointwise [projected]

/-- Every execution of the reference leaves `result` of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

end Cert.ReferenceIdeal.Own
end
-- ==== Proof.Softmax.lean ====
/-
  The two forms of a softmax average on extended reals: the exponentials of the scores, and those of the scores less their
  maximum. At real scores the two quotients agree, whatever the averaged values.
-/
module

public import Idealize.ShloMosaic.PureOps.Ideal
public import Idealize.ShloMosaic.Lib.Pointwise

@[expose] public section

noncomputable section

namespace Cert.Own

open Idealize.ShloMosaic

/-- A nonnegative real factor distributes over a sum. -/
theorem sum_mul_real {ι : Type} (s : Finset ι) (f : ι → EReal) {t : ℝ} (ht : 0 ≤ t) :
    ∑ j ∈ s, f j * (t : EReal) = (∑ j ∈ s, f j) * (t : EReal) := by
  classical
  induction s using Finset.induction_on with
  | empty => simp
  | insert a s ha ih =>
    rw [Finset.sum_insert ha, Finset.sum_insert ha, ih,
      EReal.right_distrib_of_nonneg_of_ne_top (EReal.coe_nonneg.mpr ht) (EReal.coe_ne_top t)]

/-- A sum of reals is real. -/
theorem sum_real {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The maximum of real scores, folded from `⊥`, is one of them. -/
theorem fold_max_real {n : ℕ} [NeZero n] (f : Fin n → EReal) (σ : Fin n → ℝ) (h : ∀ j, f j = (σ j : EReal)) :
    ∃ μ : ℝ, Finset.univ.fold max ⊥ f = (μ : EReal) := by
  obtain ⟨j, -, hj⟩ := Finset.exists_mem_eq_sup Finset.univ ⟨(0 : Fin n), Finset.mem_univ _⟩ f
  exact ⟨σ j, (show Finset.univ.fold max ⊥ f = f j from hj).trans (h j)⟩

/-- The average of `v` under the scores `s`: shifting every score by their maximum changes nothing. -/
theorem softmax_shift {n : ℕ} [NeZero n] (s v : Fin n → EReal) (σ : Fin n → ℝ) (h : ∀ j, s j = (σ j : EReal)) :
    Ideal.div (∑ j, v j * Ideal.exp (s j - Finset.univ.fold max ⊥ s)) (∑ j, Ideal.exp (s j - Finset.univ.fold max ⊥ s))
      = Ideal.div (∑ j, Ideal.exp (s j) * v j) (∑ j, Ideal.exp (s j)) := by
  obtain ⟨μ, hμ⟩ := fold_max_real s σ h
  have hs : ∀ j, Ideal.exp (s j) = ((Real.exp (σ j) : ℝ) : EReal) := fun j => by rw [h j]; rfl
  have hd : ∀ j, Ideal.exp (s j - Finset.univ.fold max ⊥ s) = Ideal.exp (s j) * ((Real.exp (-μ) : ℝ) : EReal) := fun j => by
    rw [hs, hμ, h j, ← EReal.coe_sub, ← EReal.coe_mul, ← Real.exp_add]; rfl
  have ht : (0 : ℝ) < Real.exp (-μ) := Real.exp_pos _
  have hL : ∑ j, Ideal.exp (s j) = ((∑ j, Real.exp (σ j) : ℝ) : EReal) := by
    rw [Finset.sum_congr rfl fun j _ => hs j, sum_real]
  have hL0 : (0 : ℝ) < ∑ j, Real.exp (σ j) := Finset.sum_pos (fun j _ => Real.exp_pos _) ⟨(0 : Fin n), Finset.mem_univ _⟩
  have hN : ∑ j, v j * Ideal.exp (s j - Finset.univ.fold max ⊥ s) = (∑ j, Ideal.exp (s j) * v j) * ((Real.exp (-μ) : ℝ) : EReal) := by
    rw [← sum_mul_real _ _ ht.le]
    exact Finset.sum_congr rfl fun j _ => by rw [hd, ← mul_assoc, mul_comm (v j)]
  have hD : ∑ j, Ideal.exp (s j - Finset.univ.fold max ⊥ s) = (((∑ j, Real.exp (σ j)) * Real.exp (-μ) : ℝ) : EReal) := by
    rw [Finset.sum_congr rfl fun j _ => hd j, sum_mul_real _ _ ht.le, hL, ← EReal.coe_mul]
  rw [hN, hD, hL, Ideal.div_coe (mul_pos hL0 ht).ne', Ideal.div_coe hL0.ne', mul_assoc, ← EReal.coe_mul]
  congr 2
  field_simp

end Cert.Own
end
-- ==== Proof.Algebra.lean ====
/-
  The two results are one function of the whole arrays: at row `i` and column `n` the sum over heads and head columns of the
  exponentials' weighted mean of the values times the output projection. The reference subtracts each row's largest score first,
  which scales numerator and denominator alike; the kernel has each device sum over its own keys and adds the devices up.
-/
module

public import proofs.«01_k».proof.Proof.KiValue
public import proofs.«01_k».proof.Proof.RefValue
public import proofs.«01_k».proof.Proof.Softmax
public import Idealize.ShloMosaic.Lib.Layout
public import Idealize.ShloMosaic.Lib.Pipeline.ValueKit.Acc

@[expose] public section

set_option maxRecDepth 16384

noncomputable section

namespace Cert.Own

open Idealize.ShloMosaic

local notation "X" => FVec Ideal Cert.ReferenceIdeal.S1x512x1024 FTy.f32
local notation "W" => FVec Ideal Cert.ReferenceIdeal.S1024x1024 FTy.f32
local notation "KV" => FVec Ideal Cert.ReferenceIdeal.S1x65536x2x128 FTy.f32

/-! ### The function both compute -/

/-- Column `d` of head `h`, among all the heads' columns. -/
abbrev col (h : Fin 8) (d : Fin 128) : Fin 1024 := ⟨128 * h.val + d.val, by omega⟩
/-- The group of key and value heads that head `h` uses. -/
abbrev grp (h : Fin 8) : Fin 2 := ⟨h.val / 4, by omega⟩

/-- Row `i`'s score against key `J` in head `h`. -/
def score (x : X) (wq : W) (k : KV) (i : Fin 512) (h : Fin 8) (J : Fin 65536) : EReal :=
  (∑ e : Fin 128, (∑ l : Fin 1024, x (ix3 0 i l) * wq (ix2 l (col h e))) * k (ix4 0 J (grp h) e)) * Ideal.ofBits .f32 0x3DB504F3#32
/-- The exponentials' weighted mean of column `d` of the values. -/
def mean (x : X) (wq : W) (k v : KV) (i : Fin 512) (h : Fin 8) (d : Fin 128) : EReal :=
  Ideal.div (∑ J : Fin 65536, Ideal.exp (score x wq k i h J) * v (ix4 0 J (grp h) d)) (∑ J : Fin 65536, Ideal.exp (score x wq k i h J))

/-- Scores of real inputs are real. -/
theorem score_real (x : X) (wq : W) (k : KV) (hx : ∀ i, ∃ r : ℝ, x i = (r : EReal)) (hq : ∀ i, ∃ r : ℝ, wq i = (r : EReal))
    (hk : ∀ i, ∃ r : ℝ, k i = (r : EReal)) (i : Fin 512) (h : Fin 8) (J : Fin 65536) : ∃ r : ℝ, score x wq k i h J = (r : EReal) := by
  choose fx hx using hx
  choose fq hq using hq
  choose fk hk using hk
  obtain ⟨z, hz⟩ : ∃ z : ℝ, Ideal.ofBits .f32 0x3DB504F3#32 = (z : EReal) := by
    simp [Ideal.ofBits, Ideal.ieee, -EReal.coe_mul]
  refine ⟨(∑ e : Fin 128, (∑ l : Fin 1024, fx (ix3 0 i l) * fq (ix2 l (col h e))) * fk (ix4 0 J (grp h) e)) * z, ?_⟩
  unfold score
  simp only [hx, hq, hk, hz, ← EReal.coe_mul, sum_real]

/-! ### The reference -/

/-- The reference's scaled scores are the scores above. -/
theorem scores_score (x : X) (wq : W) (k : KV) (i : Fin 512) (h : Fin 8) (J : Fin 65536) :
    Cert.ReferenceIdeal.Own.scores (Cert.ReferenceIdeal.Own.queries x wq) (Cert.ReferenceIdeal.Own.repeated k) (ix4 0 h i J) = score x wq k i h J := by
  rw [Cert.ReferenceIdeal.Own.scores_apply]
  unfold score
  refine congrArg (· * _) (Finset.sum_congr rfl fun e _ => ?_)
  rw [Cert.ReferenceIdeal.Own.queries_apply, Cert.ReferenceIdeal.Own.repeated_apply]
  simp only [Nat.mul_comm h.val 128]

/-- The reference's result, the maximum cancelled. -/
theorem result_mean (x : X) (wq wo : W) (k v : KV) (hx : ∀ i, ∃ r : ℝ, x i = (r : EReal)) (hq : ∀ i, ∃ r : ℝ, wq i = (r : EReal))
    (hk : ∀ i, ∃ r : ℝ, k i = (r : EReal)) (i : Fin 512) (n : Fin 1024) :
    Cert.ReferenceIdeal.Own.result x wq k v wo (ix2 i n) = ∑ h : Fin 8, ∑ d : Fin 128, mean x wq k v i h d * wo (ix2 (col h d) n) := by
  unfold Cert.ReferenceIdeal.Own.result
  rw [Cert.ReferenceIdeal.Own.projected_apply]
  refine Fin.sum_divmod_congr (S := 128) fun t ha hs => ?_
  rw [Cert.ReferenceIdeal.Own.averages_apply]
  simp only [Cert.ReferenceIdeal.Own.shifted_apply, scores_score, Cert.ReferenceIdeal.Own.repeated_apply]
  choose σ hσ using score_real x wq k hx hq hk i ⟨t.val / 128, ha⟩
  rw [softmax_shift _ _ σ hσ]
  have e : col ⟨t.val / 128, ha⟩ ⟨t.val % 128, hs⟩ = t := Fin.ext (Nat.div_add_mod t.val 128)
  rw [e]
  rfl

end Cert.Own

namespace Cert.KernelIdeal.Own

open Cert.KernelIdeal Cert.KernelIdeal.Gen Cert.Own
open Idealize.ShloMosaic Idealize.SL.Sem

local notation "X" => FVec Ideal Cert.ReferenceIdeal.S1x512x1024 FTy.f32
local notation "W" => FVec Ideal Cert.ReferenceIdeal.S1024x1024 FTy.f32
local notation "KV" => FVec Ideal Cert.ReferenceIdeal.S1x65536x2x128 FTy.f32

/-! ### The kernel -/

/-- Key `j` of device `c`, among all the keys. -/
abbrev key (c : Dev nD) (j : Fin 2048) : Fin 65536 := ⟨c.val * 2048 + j.val, by have : c.val < 32 := c.isLt; omega⟩

/-- The devices hold the arrays `x`, `wq`, `wo` whole and their blocks of `k` and `v`. -/
structure Holds (m : (ℓ : Loc nD τ sig) → Buf (Elt Ideal) ℓ) (x : X) (wq wo : W) (k v : KV) : Prop where
  x : ∀ c, xS m c = x
  wq : ∀ c, wqS m c = wq
  wo : ∀ c, woS m c = wo
  k : ∀ c j g e, kS m c (ix4 0 j g e) = k (ix4 0 (key c j) g e)
  v : ∀ c j g e, vS m c (ix4 0 j g e) = v (ix4 0 (key c j) g e)

variable {m : (ℓ : Loc nD τ sig) → Buf (Elt Ideal) ℓ} {x : X} {wq wo : W} {k v : KV}

/-- A sum over every device's keys is one over all the keys. -/
theorem sum_keys (f : Fin 65536 → EReal) : ∑ c : Dev nD, ∑ j : Fin 2048, f (key c j) = ∑ J : Fin 65536, f J :=
  Fin.sum_mul_add_fin 32 2048 f

/-- A device's exponentials are those of its own keys' scores. -/
theorem expH_apply (H : Holds m x wq wo k v) (c : Dev nD) (h : Fin 8) (i : Fin 512) (j : Fin 2048) :
    expH m c h (ix2 i j) = Ideal.exp (score x wq k i h (key c j)) := by
  unfold expH
  rw [expScores_apply _ _ (by omega)]
  unfold score
  refine congrArg (fun z => Ideal.exp (z * _)) (Finset.sum_congr rfl fun e _ => ?_)
  rw [qAll_apply, H.x, H.wq]
  exact congrArg (_ * ·) (H.k c j _ e)

/-- A device's denominators before the exchange. -/
theorem initL_apply (H : Holds m x wq wo k v) (c : Dev nD) (i : Fin 512) (h : Fin 8) :
    initL m c (ix2 i h) = ∑ j : Fin 2048, Ideal.exp (score x wq k i h (key c j)) := by
  show rowSums (expH m c h) (ix2 i 0) = _
  rw [rowSums_apply]
  exact Finset.sum_congr rfl fun j _ => expH_apply H c h i j

/-- A device's numerators before the exchange. -/
theorem initO_apply (H : Holds m x wq wo k v) (c : Dev nD) (i : Fin 512) (h : Fin 8) (d : Fin 128) :
    initO m c (ix3 i h d) = ∑ j : Fin 2048, Ideal.exp (score x wq k i h (key c j)) * v (ix4 0 (key c j) (grp h) d) := by
  show mix (expH m c h) (group (vS m c) (grp h)) (ix3 i 0 d) = _
  rw [mix_apply]
  exact Finset.sum_congr rfl fun j _ => congrArg₂ (· * ·) (expH_apply H c h i j) (H.v c j _ d)

/-- Row `16 * c + r` is among those device `c` is left with. -/
theorem own_row (c : Dev nD) (r : ℕ) (hr : r < 16) : lo 0 c ≤ (lo 0 c + r) % 512 ∧ (lo 0 c + r) % 512 < lo 0 c + sz 0 := by
  have h : c.val < 32 := c.isLt
  simp only [lo, sz]; omega

/-- After the exchange a device's own rows hold the denominators over all the keys. -/
theorem accL_apply (H : Holds m x wq wo k v) (c : Dev nD) (i : Fin 512) (hi : lo 0 c ≤ i.val ∧ i.val < lo 0 c + sz 0) (h : Fin 8) :
    accL m 5 c (ix2 i h) = ∑ J : Fin 65536, Ideal.exp (score x wq k i h J) := by
  refine (halve_five S512x8 0 (initL m) c (ix2 i h) (mem_rows.2 hi)).trans ?_
  rw [← sum_keys]
  exact Finset.sum_congr rfl fun q _ => initL_apply H q i h
/-- After the exchange a device's own rows hold the numerators over all the keys. -/
theorem accO_apply (H : Holds m x wq wo k v) (c : Dev nD) (i : Fin 512) (hi : lo 0 c ≤ i.val ∧ i.val < lo 0 c + sz 0) (h : Fin 8) (d : Fin 128) :
    accO m 5 c (ix3 i h d) = ∑ J : Fin 65536, Ideal.exp (score x wq k i h J) * v (ix4 0 J (grp h) d) := by
  refine (halve_five S512x8x128 0 (initO m) c (ix3 i h d) (mem_rows.2 hi)).trans ?_
  rw [← sum_keys]
  exact Finset.sum_congr rfl fun q _ => initO_apply H q i h d

/-- One head's term of a device's own rows. -/
theorem termH_apply (H : Holds m x wq wo k v) (c : Dev nD) (h : Fin 8) (r : Fin 16) (i : Fin 512) (hi : i.val = (lo 0 c + r.val) % 512) (n : Fin 1024) :
    termH m c h (ix2 r n) = ∑ d : Fin 128, mean x wq k v i h d * wo (ix2 (col h d) n) := by
  have hr := own_row c r.val r.isLt
  rw [← hi] at hr
  have e : (⟨(lo 0 c + r.val) % 512, Nat.mod_lt _ (by decide)⟩ : Fin 512) = i := Fin.ext hi.symm
  unfold termH
  rw [headTerm_apply]
  refine Finset.sum_congr rfl fun d _ => congrArg₂ (· * ·) (congrArg₂ Ideal.div ?_ ?_) ?_
  · refine Eq.trans ?_ (accO_apply H c i hr h d)
    exact congrArg (fun z : Fin 512 => accO m 5 c (ix3 z h d)) e
  · refine Eq.trans ?_ (accL_apply H c i hr h)
    exact congrArg (fun z : Fin 512 => accL m 5 c (ix2 z h)) e
  · rw [H.wo]
    exact congrArg (fun z : Fin 1024 => wo (ix2 z n)) (Fin.ext (Nat.mod_eq_of_lt (col h d).isLt))

/-- The result at an index: the eight heads' terms added up. -/
theorem outAll_apply (H : Holds m x wq wo k v) (i : Fin 512) (n : Fin 1024) :
    outAll m (ix2 i n) = ∑ h : Fin 8, ∑ d : Fin 128, mean x wq k v i h d * wo (ix2 (col h d) n) := by
  have hc : i.val / 16 < nD := by show _ < 32; omega
  have hi : i.val = (lo 0 ⟨i.val / 16, hc⟩ + i.val % 16) % 512 := by simp only [lo]; omega
  have ht := fun h => termH_apply H ⟨i.val / 16, hc⟩ h ⟨i.val % 16, Nat.mod_lt _ (by decide)⟩ i hi n
  rw [Fin.sum_univ_eight]
  simp only [← ht]
  rfl

/-- On real inputs, query weights and keys, what the devices end up holding is the reference's result. -/
theorem outAll_result (H : Holds m x wq wo k v) (hx : ∀ i, ∃ r : ℝ, x i = (r : EReal)) (hq : ∀ i, ∃ r : ℝ, wq i = (r : EReal))
    (hk : ∀ i, ∃ r : ℝ, k i = (r : EReal)) : outAll m = Cert.ReferenceIdeal.Own.result x wq k v wo := by
  funext j
  obtain ⟨i, n, rfl⟩ : ∃ (i : Fin 512) (n : Fin 1024), j = ix2 i n := ⟨j 0, j 1, eq_ix2 j⟩
  exact (outAll_apply H i n).trans (result_mean x wq wo k v hx hq hk i n).symm

end Cert.KernelIdeal.Own
end
-- ==== Proof.lean ====
/-
  The certificate: the frames of the kernel at both float readings and of the reference, that the idealization is the
  kernel's own text, and that on finite inputs, query weights and keys every device ends with the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KiRun
public import proofs.«01_k».proof.Proof.KnRun
public import proofs.«01_k».proof.Proof.Finite
public import proofs.«01_k».proof.Proof.Algebra
public import Idealize.ShloMosaic.Adequacy
public import Idealize.ShloMosaic.Init

@[expose] public section

noncomputable section

namespace Cert.Proof

open Idealize.ShloMosaic Idealize.SL.Sem

/-- The kernel as it runs, on float words. -/
theorem frame_kernel : Cert.quiescent_Kernel (hKernel := Cert.Kernel.Gen.facts) := fun m ρ _ =>
  (θ_run Cert.Kernel.defs _ _).mono (fun _ h => ⟨fun c => (h.1 c).2, h.2⟩) (Cert.Kernel.Own.run (F := Bits) m ρ)

/-- The kernel on extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Own.run (F := Ideal) m ρ)

/-- The reference has no semaphore. -/
theorem no_sem (s : MemSt Cert.ReferenceIdeal.nD Cert.ReferenceIdeal.τ Cert.ReferenceIdeal.sig (Elt Ideal)) : s.sem = fun _ => 0 := by
  funext g
  rcases g with ⟨_, q | q⟩ <;> exact absurd q.isLt (Nat.not_lt_zero _)

/-- The reference on extended reals. -/
theorem frame_reference : Cert.quiescent_ReferenceIdeal (hReferenceIdeal := Cert.ReferenceIdeal.Gen.facts) := fun m ρ _ =>
  (θ_run Cert.ReferenceIdeal.defs _ _).mono (fun _ h => ⟨fun c => (h c).2, no_sem _⟩) (Cert.ReferenceIdeal.Value.run (F := Ideal) m ρ)

/-- Entry `j` of device `c`'s block of an array of keys or values is the array's entry at that device's key `j`. -/
theorem block_entry (c : Dev Cert.KernelIdeal.nD) (k : FVec Ideal Cert.ReferenceIdeal.S1x65536x2x128 .f32) (j : Fin 2048) (g : Fin 2) (e : Fin 128) :
    (Layout.block ⟨4, ![1, 2048, 2, 128]⟩ ⟨4, ![1, 65536, 2, 128]⟩ 1 32 c k : FVec Ideal Cert.KernelIdeal.S1x2048x2x128 .f32) (ix4 0 j g e) = k (ix4 0 (Cert.KernelIdeal.Own.key c j) g e) := by
  rw [Layout.block_apply]
  refine congrArg k (funext fun a => ?_)
  fin_cases a <;> rfl

/-- An array whose blocks' entries are all real has real entries. -/
theorem real_of_blocks (k : FVec Ideal Cert.ReferenceIdeal.S1x65536x2x128 .f32)
    (h : ∀ c : Dev Cert.KernelIdeal.nD, ∀ i, ∃ r : ℝ, (Layout.block ⟨4, ![1, 2048, 2, 128]⟩ ⟨4, ![1, 65536, 2, 128]⟩ 1 32 c k : FVec Ideal Cert.KernelIdeal.S1x2048x2x128 .f32) i = (r : EReal)) :
    ∀ i, ∃ r : ℝ, k i = (r : EReal) := by
  intro i
  obtain ⟨a, J, g, e, rfl⟩ : ∃ (a : Fin 1) (J : Fin 65536) (g : Fin 2) (e : Fin 128), i = ix4 a J g e := ⟨i 0, i 1, i 2, i 3, eq_ix4 i⟩
  have hc : J.val / 2048 < Cert.KernelIdeal.nD := by show _ < 32; omega
  obtain ⟨r, hr⟩ := h ⟨J.val / 2048, hc⟩ (ix4 0 ⟨J.val % 2048, Nat.mod_lt _ (by decide)⟩ g e)
  rw [block_entry] at hr
  have ha : a = 0 := Subsingleton.elim _ _
  have hJ : Cert.KernelIdeal.Own.key ⟨J.val / 2048, hc⟩ ⟨J.val % 2048, Nat.mod_lt _ (by decide)⟩ = J := Fin.ext (Nat.div_add_mod' J.val 2048)
  exact ⟨r, by rw [ha, ← hr, hJ]⟩

/-- The devices' parts of the reference's arguments are what the kernel's value lemmas speak of. -/
theorem holds {m : (ℓ : Loc Cert.KernelIdeal.nD Cert.KernelIdeal.τ Cert.KernelIdeal.sig) → Buf (Elt Ideal) ℓ}
    {x : FVec Ideal Cert.ReferenceIdeal.S1x512x1024 .f32} {wq wo : FVec Ideal Cert.ReferenceIdeal.S1024x1024 .f32}
    {k v : FVec Ideal Cert.ReferenceIdeal.S1x65536x2x128 .f32}
    (h : ∀ c : Dev Cert.KernelIdeal.nD, m ((c.tc : Thread Cert.KernelIdeal.nD Cert.KernelIdeal.τ).loc Cert.KernelIdeal.main_arg0) = x
      ∧ m ((c.tc : Thread Cert.KernelIdeal.nD Cert.KernelIdeal.τ).loc Cert.KernelIdeal.main_arg1) = wq
      ∧ m ((c.tc : Thread Cert.KernelIdeal.nD Cert.KernelIdeal.τ).loc Cert.KernelIdeal.main_arg2) = Layout.block ⟨4, ![1, 2048, 2, 128]⟩ ⟨4, ![1, 65536, 2, 128]⟩ 1 32 c k
      ∧ m ((c.tc : Thread Cert.KernelIdeal.nD Cert.KernelIdeal.τ).loc Cert.KernelIdeal.main_arg3) = Layout.block ⟨4, ![1, 2048, 2, 128]⟩ ⟨4, ![1, 65536, 2, 128]⟩ 1 32 c v
      ∧ m ((c.tc : Thread Cert.KernelIdeal.nD Cert.KernelIdeal.τ).loc Cert.KernelIdeal.main_arg4) = wo) :
    Cert.KernelIdeal.Own.Holds m x wq wo k v where
  x c := (Cert.KernelIdeal.Own.xS_eq m c).trans (h c).1
  wq c := (Cert.KernelIdeal.Own.wqS_eq m c).trans (h c).2.1
  wo c := (Cert.KernelIdeal.Own.woS_eq m c).trans (h c).2.2.2.2
  k c j g e := (congrFun ((Cert.KernelIdeal.Own.kS_eq m c).trans (h c).2.2.1) _).trans (block_entry c k j g e)
  v c j g e := (congrFun ((Cert.KernelIdeal.Own.vS_eq m c).trans (h c).2.2.2.1) _).trans (block_entry c v j g e)

attribute [local instance] Cert.Own.facts_kernel in
/-- On finite inputs, query weights and keys every device ends with the reference's result. -/
theorem value : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Own.facts_kernel) := fun m ρ m' ρ' hp h => by
  have H := holds h
  have hf := fun c => Cert.Own.real_entries _ _ _ _ _ (hp c)
  have hk : ∀ i, ∃ r : ℝ, (m' (((0 : Dev Cert.ReferenceIdeal.nD).tc : Thread Cert.ReferenceIdeal.nD Cert.ReferenceIdeal.τ).loc Cert.ReferenceIdeal.main_arg2)
      : FVec Ideal Cert.ReferenceIdeal.S1x65536x2x128 .f32) i = (r : EReal) :=
    real_of_blocks _ fun c => by rw [← (h c).2.2.1]; exact (hf c).2.2
  have hr := Cert.KernelIdeal.Own.outAll_result H (by rw [← (h 0).1]; exact (hf 0).1) (by rw [← (h 0).2.1]; exact (hf 0).2.1) hk
  refine ⟨_, (θ_run Cert.KernelIdeal.defs _ _).mono (fun _ a c => ⟨(a.1 c).1.trans hr, (a.1 c).2⟩) (Cert.KernelIdeal.Own.run (F := Ideal) m ρ), ?_⟩
  exact (θ_run Cert.ReferenceIdeal.defs _ _).mono (fun _ a => a 0) (Cert.ReferenceIdeal.Own.run m' ρ')

/-- All the claims. -/
theorem claim : Cert.Claim := ⟨Cert.Kernel.Gen.facts, Cert.KernelIdeal.Gen.facts, Cert.ReferenceIdeal.Gen.facts, Cert.Own.facts_kernel,
  Cert.Own.facts_reference, frame_kernel, frame_ideal, fun m ρ _ => frame_ideal m ρ trivial, frame_reference,
  fun m ρ _ => frame_reference m ρ trivial, trivial, value⟩

end Cert.Proof

end
